-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17)
      ∧ r.2.mem ((c.tc : Thread Cert.Mixer.nD Cert.Mixer.τ).loc Cert.Mixer.main_arg18) = m ((c.tc : Thread Cert.Mixer.nD Cert.Mixer.τ).loc Cert.Mixer.main_arg18)
      ∧ r.2.mem ((c.tc : Thread Cert.Mixer.nD Cert.Mixer.τ).loc Cert.Mixer.main_arg19) = m ((c.tc : Thread Cert.Mixer.nD Cert.Mixer.τ).loc Cert.Mixer.main_arg19))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17)
      ∧ r.2.mem ((c.tc : Thread Cert.MixerIdeal.nD Cert.MixerIdeal.τ).loc Cert.MixerIdeal.main_arg18) = m ((c.tc : Thread Cert.MixerIdeal.nD Cert.MixerIdeal.τ).loc Cert.MixerIdeal.main_arg18)
      ∧ r.2.mem ((c.tc : Thread Cert.MixerIdeal.nD Cert.MixerIdeal.τ).loc Cert.MixerIdeal.main_arg19) = m ((c.tc : Thread Cert.MixerIdeal.nD Cert.MixerIdeal.τ).loc Cert.MixerIdeal.main_arg19))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v50) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v1_0)) (v1 : (c : Dev Cert.KvIdeal.nD) → Buf (Elt Ideal) ((c.tc : Thread Cert.KvIdeal.nD Cert.KvIdeal.τ).loc Cert.KvIdeal.main_v1_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1_0) = v0 c
          ∧ r.2.mem ((c.tc : Thread Cert.KvIdeal.nD Cert.KvIdeal.τ).loc Cert.KvIdeal.main_v1_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v29) = v0 c
          ∧ r.2.mem ((c.tc : Thread Cert.KvRefIdeal.nD Cert.KvRefIdeal.τ).loc Cert.KvRefIdeal.main_v31) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4))

def preserves_Mixer_MixerIdeal : Prop :=
  True

def Claim : Prop :=
  ∃ (hMlp : Cert.Mlp.Facts) (hMlpIdeal : Cert.MlpIdeal.Facts) (hMlpRefIdeal : Cert.MlpRefIdeal.Facts) (hKv : Cert.Kv.Facts) (hKvIdeal : Cert.KvIdeal.Facts) (hKvRefIdeal : Cert.KvRefIdeal.Facts) (hMixer : Cert.Mixer.Facts) (hMixerIdeal : Cert.MixerIdeal.Facts),
    quiescent_Mlp (hMlp := hMlp)
    ∧ quiescent_MlpIdeal (hMlpIdeal := hMlpIdeal)
    ∧ quiescent_MlpRefIdeal (hMlpRefIdeal := hMlpRefIdeal)
    ∧ quiescent_Kv (hKv := hKv)
    ∧ quiescent_KvIdeal (hKvIdeal := hKvIdeal)
    ∧ quiescent_KvRefIdeal (hKvRefIdeal := hKvRefIdeal)
    ∧ quiescent_Mixer (hMixer := hMixer)
    ∧ quiescent_MixerIdeal (hMixerIdeal := hMixerIdeal)
    ∧ preserves_Mlp_MlpIdeal
    ∧ algebraic_MlpIdeal_MlpRefIdeal (hMlpIdeal := hMlpIdeal) (hMlpRefIdeal := hMlpRefIdeal)
    ∧ preserves_Kv_KvIdeal
    ∧ algebraic_KvIdeal_KvRefIdeal (hKvIdeal := hKvIdeal) (hKvRefIdeal := hKvRefIdeal)
    ∧ preserves_Mixer_MixerIdeal
-- ==== Mlp.lean ====
abbrev S32768x1024 : Shape := ⟨2, ![32768, 1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S4096x1024, .bf16⟩
  | .local _ .vmem, ⟨10, _⟩ => ⟨S2x1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S32768x1024 : Shape := ⟨2, ![32768, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x4096, .f32⟩
  | .hbm, ⟨35, _⟩ => ⟨S_, .f32⟩
  | .hbm, ⟨36, _⟩ => ⟨S32768x4096, .f32⟩
  | .hbm, ⟨37, _⟩ => ⟨S32768x4096, .f32⟩
  | .hbm, ⟨38, _⟩ => ⟨S32768x4096, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kv.lean ====
abbrev S16x256x1024 : Shape := ⟨3, ![16, 256, 1024]⟩
abbrev S1x1024 : Shape := ⟨2, ![1, 1024]⟩
abbrev S1024x1024 : Shape := ⟨2, ![1024, 1024]⟩
abbrev S4096x1024 : Shape := ⟨2, ![4096, 1024]⟩
abbrev S64x1024 : Shape := ⟨2, ![64, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvRefIdeal.lean ====
abbrev S16x256x1024 : Shape := ⟨3, ![16, 256, 1024]⟩
abbrev S1x1024 : Shape := ⟨2, ![1, 1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4096x1024 : Shape := ⟨2, ![4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S16x256x1024, .f32⟩
  | .hbm, ⟨12, _⟩ => ⟨S16x256x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1024, .f32⟩
  | .hbm, ⟨21, _⟩ => ⟨S16x256x1024, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S_, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S16x256x1024, .bf16⟩
  | .hbm, ⟨40, _⟩ => ⟨S4096x1024, .bf16⟩
  | .hbm, ⟨41, _⟩ => ⟨S16x256x1024, .bf16⟩
  | .hbm, ⟨42, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Mixer.lean ====
abbrev S16x2048x1024 : Shape := ⟨3, ![16, 2048, 1024]⟩
abbrev S1x1024 : Shape := ⟨2, ![1, 1024]⟩
abbrev S1024x1536 : Shape := ⟨2, ![1024, 1536]⟩
abbrev S4x256x1280 : Shape := ⟨3, ![4, 256, 1280]⟩
abbrev S4x1x512 : Shape := ⟨3, ![4, 1, 512]⟩
abbrev S4x1024x256 : Shape := ⟨3, ![4, 1024, 256]⟩
abbrev S1x512 : Shape := ⟨2, ![1, 512]⟩
abbrev S512x512 : Shape := ⟨2, ![512, 512]⟩
abbrev S4x512 : Shape := ⟨2, ![4, 512]⟩
abbrev S2x256x512 : Shape := ⟨3, ![2, 256, 512]⟩
abbrev S1024x1024 : Shape := ⟨2, ![1024, 1024]⟩
abbrev S8x64x512x128 : Shape := ⟨4, ![8, 64, 512, 128]⟩
abbrev S16x32x1024 : Shape := ⟨3, ![16, 32, 1024]⟩
abbrev S8x1x512x128 : Shape := ⟨4, ![8, 1, 512, 128]⟩
abbrev S512x1536 : Shape := ⟨2, ![512, 1536]⟩
abbrev S4x256x256 : Shape := ⟨3, ![4, 256, 256]⟩
abbrev S512x1024 : Shape := ⟨2, ![512, 1024]⟩
abbrev S4x256x1024 : Shape := ⟨3, ![4, 256, 1024]⟩
abbrev S4x16x1024 : Shape := ⟨3, ![4, 16, 1024]⟩
abbrev S560x512 : Shape := ⟨2, ![560, 512]⟩
abbrev S16x512 : Shape := ⟨2, ![16, 512]⟩
abbrev S64x1536 : Shape := ⟨2, ![64, 1536]⟩
abbrev S64x512 : Shape := ⟨2, ![64, 512]⟩
abbrev S64x1024 : Shape := ⟨2, ![64, 1024]⟩
abbrev S48x512 : Shape := ⟨2, ![48, 512]⟩
abbrev S1x16x1024 : Shape := ⟨3, ![1, 16, 1024]⟩
abbrev S16x1024 : Shape := ⟨2, ![16, 1024]⟩
abbrev S16 : Shape := ⟨1, ![16]⟩
abbrev S16x1 : Shape := ⟨2, ![16, 1]⟩
abbrev S16x128 : Shape := ⟨2, ![16, 128]⟩
abbrev S256x128 : Shape := ⟨2, ![256, 128]⟩
abbrev S16x16x128 : Shape := ⟨3, ![16, 16, 128]⟩
abbrev S1024x512 : Shape := ⟨2, ![1024, 512]⟩
abbrev S1x16x128 : Shape := ⟨3, ![1, 16, 128]⟩
abbrev S32x512 : Shape := ⟨2, ![32, 512]⟩
abbrev S1x256x256 : Shape := ⟨3, ![1, 256, 256]⟩
abbrev S256x256 : Shape := ⟨2, ![256, 256]⟩
abbrev S1x256x1280 : Shape := ⟨3, ![1, 256, 1280]⟩
abbrev S256x1280 : Shape := ⟨2, ![256, 1280]⟩
abbrev S512x256 : Shape := ⟨2, ![512, 256]⟩
abbrev S1x256x512 : Shape := ⟨3, ![1, 256, 512]⟩
abbrev S256x512 : Shape := ⟨2, ![256, 512]⟩
abbrev S1x1x512 : Shape := ⟨3, ![1, 1, 512]⟩
abbrev S1x16x512 : Shape := ⟨3, ![1, 16, 512]⟩
abbrev S1x256x1024 : Shape := ⟨3, ![1, 256, 1024]⟩
abbrev S256x1024 : Shape := ⟨2, ![256, 1024]⟩
abbrev S1x1024x256 : Shape := ⟨3, ![1, 1024, 256]⟩
abbrev S1024x256 : Shape := ⟨2, ![1024, 256]⟩
abbrev S32 : Shape := ⟨1, ![32]⟩
abbrev S32x1 : Shape := ⟨2, ![32, 1]⟩
abbrev S512x128 : Shape := ⟨2, ![512, 128]⟩
abbrev S32x16x128 : Shape := ⟨3, ![32, 16, 128]⟩
abbrev S16x32x128 : Shape := ⟨3, ![16, 32, 128]⟩
abbrev S1x1x512x128 : Shape := ⟨4, ![1, 1, 512, 128]⟩
abbrev S8x64x16x32x128 : Shape := ⟨5, ![8, 64, 16, 32, 128]⟩

abbrev nBuf : Space → Nat
  | .hbm => 22
  | .vmem => 48
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024, .f32⟩
  | .hbm, ⟨3, _⟩ => ⟨S1024x1536, .f32⟩
  | .hbm, ⟨4, _⟩ => ⟨S4x256x1280, .bf16⟩
  | .hbm, ⟨5, _⟩ => ⟨S4x1x512, .f32⟩
  | .hbm, ⟨6, _⟩ => ⟨S4x1x512, .f32⟩
  | .hbm, ⟨7, _⟩ => ⟨S4x1024x256, .bf16⟩
  | .hbm, ⟨8, _⟩ => ⟨S1x512, .f32⟩
  | .hbm, ⟨9, _⟩ => ⟨S512x512, .f32⟩
  | .hbm, ⟨10, _⟩ => ⟨S1x512, .f32⟩
  | .hbm, ⟨11, _⟩ => ⟨S1x512, .f32⟩
  | .hbm, ⟨12, _⟩ => ⟨S4x512, .f32⟩
  | .hbm, ⟨13, _⟩ => ⟨S1x512, .f32⟩
  | .hbm, ⟨14, _⟩ => ⟨S2x256x512, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1024x1024, .f32⟩
  | .hbm, ⟨20, _⟩ => ⟨S8x64x512x128, .bf16⟩
  | .hbm, ⟨21, _⟩ => ⟨S8x64x16x32x128, .bf16⟩
  | .local _ .vmem, ⟨0, _⟩ => ⟨S16x32x1024, .f32⟩
  | .local _ .vmem, ⟨1, _⟩ => ⟨S16x32x1024, .f32⟩
  | .local _ .vmem, ⟨2, _⟩ => ⟨S16x32x1024, .f32⟩
  | .local _ .vmem, ⟨3, _⟩ => ⟨S16x32x1024, .f32⟩
  | .local _ .vmem, ⟨4, _⟩ => ⟨S1x1024, .f32⟩
  | .local _ .vmem, ⟨5, _⟩ => ⟨S1x1024, .f32⟩
  | .local _ .vmem, ⟨6, _⟩ => ⟨S1024x1536, .f32⟩
  | .local _ .vmem, ⟨7, _⟩ => ⟨S4x256x1280, .bf16⟩
  | .local _ .vmem, ⟨8, _⟩ => ⟨S4x1x512, .f32⟩
  | .local _ .vmem, ⟨9, _⟩ => ⟨S4x1x512, .f32⟩
  | .local _ .vmem, ⟨10, _⟩ => ⟨S4x1024x256, .bf16⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | .local _ .vmem, ⟨15, _⟩ => ⟨S4x512, .f32⟩
  | .local _ .vmem, ⟨16, _⟩ => ⟨S1x512, .f32⟩
  | .local _ .vmem, ⟨17, _⟩ => ⟨S2x256x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1024x1024, .f32⟩
  | .local _ .vmem, ⟨23, _⟩ => ⟨S8x1x512x128, .bf16⟩
  | .local _ .vmem, ⟨24, _⟩ => ⟨S8x1x512x128, .bf16⟩
  | .local _ .vmem, ⟨25, _⟩ => ⟨S512x1536, .f32⟩
  | .local _ .vmem, ⟨26, _⟩ => ⟨S4x256x256, .bf16⟩
  | .local _ .vmem, ⟨27, _⟩ => ⟨S512x1024, .bf16⟩
  | .local _ .vmem, ⟨28, _⟩ => ⟨S4x256x1280, .f32⟩
  | .local _ .vmem, ⟨29, _⟩ => ⟨S4x256x1024, .bf16⟩
  | .local _ .vmem, ⟨30, _⟩ => ⟨S4x16x1024, .f32⟩
  | .local _ .vmem, ⟨31, _⟩ => ⟨S560x512, .f32⟩
  | .local _ .vmem, ⟨32, _⟩ => ⟨S512x512, .f32⟩
  | .local _ .vmem, ⟨33, _⟩ => ⟨S512x512, .bf16⟩
  | .local _ .vmem, ⟨34, _⟩ => ⟨S512x1024, .f32⟩
  | .local _ .vmem, ⟨35, _⟩ => ⟨S512x512, .f32⟩
  | .local _ .vmem, ⟨36, _⟩ => ⟨S512x512, .f32⟩
  | .local _ .vmem, ⟨37, _⟩ => ⟨S16x512, .f32⟩
  | .local _ .vmem, ⟨38, _⟩ => ⟨S4x256x256, .f32⟩
  | .local _ .vmem, ⟨39, _⟩ => ⟨S512x512, .f32⟩
  | .local _ .vmem, ⟨40, _⟩ => ⟨S512x512, .bf16⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x1024, .bf16⟩
  | .local _ .vmem, ⟨45, _⟩ => ⟨S1024x1536, .bf16⟩
  | .local _ .vmem, ⟨46, _⟩ => ⟨S512x512, .bf16⟩
  | .local _ .vmem, ⟨47, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg22_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_scratch11 : Ref sig .tc := ⟨.vmem, 36, rfl⟩
abbrev cc0_scratch12 : Ref sig .tc := ⟨.vmem, 37, rfl⟩
abbrev cc0_scratch13 : Ref sig .tc := ⟨.vmem, 38, rfl⟩
abbrev cc0_scratch14 : Ref sig .tc := ⟨.vmem, 39, rfl⟩
abbrev cc0_scratch15 : Ref sig .tc := ⟨.vmem, 40, rfl⟩
abbrev cc0_scratch16 : Ref sig .tc := ⟨.vmem, 41, rfl⟩
abbrev cc0_scratch17 : Ref sig .tc := ⟨.vmem, 42, rfl⟩
abbrev cc0_scratch18 : Ref sig .tc := ⟨.vmem, 43, rfl⟩
abbrev cc0_scratch19 : Ref sig .tc := ⟨.vmem, 44, rfl⟩
abbrev cc0_scratch20 : Ref sig .tc := ⟨.vmem, 45, rfl⟩
abbrev cc0_scratch21 : Ref sig .tc := ⟨.vmem, 46, rfl⟩
abbrev cc0_scratch22 : Ref sig .tc := ⟨.vmem, 47, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem22_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S16x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S8x1x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Proof.MlpIdealLoad.lean ====
module
public import proofs.«01_k».proof.Proof.Gen.MlpIdeal.Skeleton
public import proofs.«01_k».proof.Proof.Gen.MlpIdeal.Frame
public import proofs.«01_k».proof.Proof.Gen.MlpIdeal.Launch
public import proofs.«01_k».proof.Proof.Gen.MlpIdeal.Points
public import Idealize.ShloMosaic.Lib.Pipeline.FrameBody
public import Idealize.ShloMosaic.Lib.Pipeline.ReadBack
public import Idealize.ShloMosaic.Lib.ReshapeSlab
public import Idealize.ShloMosaic.Lib.Pointwise
public import Idealize.ShloMosaic.Lib.Tactic

/-! The first point of the feed-forward block: the eight copies of the two weights through the two-slot stage, and the
    rounded rows they leave in the two weight scratches. -/

@[expose] public section
set_option maxRecDepth 16384
noncomputable section
namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

variable {F : FTy → Type} [FloatOps F]

local notation "𝕄" => MT nD τ sig Unit (Elt F) ℕ (Pipeline.UD sig nD τ) ℕ

/-- The rounded first weight's scratch, the rounded second weight's, and the two-slot stage. -/
abbrev sc0 : Memref sig .tc .vmem S1024x4096 .bf16 := Memref.whole cc0_scratch0
abbrev sc1 : Memref sig .tc .vmem S4096x1024 .bf16 := Memref.whole cc0_scratch1
abbrev sc2 : Memref sig .tc .vmem S2x1024x1024 .f32 := Memref.whole cc0_scratch2
/-- The two weights where they lie. -/
abbrev hb1 : Memref sig .tc .hbm S1024x4096 .f32 := Memref.whole main_arg1
abbrev hb2 : Memref sig .tc .hbm S4096x1024 .f32 := Memref.whole main_arg2

/-- The contents of a whole buffer, and the buffer held at them. -/
abbrev Held (c : Dev nD) {sp : Space} {S : Shape} {e : EltTy} (M : Memref sig .tc sp S e) : Type := Buf (Elt F) (M.view.loc (c : Thread nD τ))
abbrev at' (c : Dev nD) {sp : Space} {S : Shape} {e : EltTy} (M : Memref sig .tc sp S e) (f : Held (F := F) c M) : sProp 𝕄 :=
  M.view.loc (c : Thread nD τ) ↦{fullShare} f

/-- The stage's two slots. -/
abbrev slot0 : Memref sig .tc .vmem S1024x1024 .f32 :=
  (sc2.slice (Rect.unit (s := S2x1024x1024) ![0, 0, 0] S1x1024x1024.size inb_S2x1024x1024_S1x1024x1024_0_0_0) (fun _ => rfl)).squeeze S1024x1024 squeezes_S1x1024x1024_S1024x1024
abbrev slot1 : Memref sig .tc .vmem S1024x1024 .f32 :=
  (sc2.slice (Rect.unit (s := S2x1024x1024) ![1, 0, 0] S1x1024x1024.size inb_S2x1024x1024_S1x1024x1024_1_0_0) (fun _ => rfl)).squeeze S1024x1024 squeezes_S1x1024x1024_S1024x1024

/-- The weights rounded. -/
def rw1 (w : Vec F S1024x4096 .f32) : Vec F S1024x4096 .bf16 := truncf (F := F) (s := S1024x4096) .bf16 w bitsLt_bf16_f32
def rw2 (w : Vec F S4096x1024 .f32) : Vec F S4096x1024 .bf16 := truncf (F := F) (s := S4096x1024) .bf16 w bitsLt_bf16_f32

/-- A column chunk of the first weight, a row chunk of the second. -/
abbrev chunk1 (c : Dev nD) (w : Held (F := F) c hb1) (o : ℕ) (inb : ∀ a, (![0, o] : Fin 2 → ℕ) a + S1024x1024.size a ≤ S1024x4096.size a) : S1024x1024.Idx → Elt F .f32 :=
  (ReadAs.same (Val := Elt F)).apply (View.read (Elt F) (hb1.slice (Rect.unit (s := S1024x4096) ![0, o] S1024x1024.size inb) (fun _ => rfl)).view w)
abbrev chunk2 (c : Dev nD) (w : Held (F := F) c hb2) (o : ℕ) (inb : ∀ a, (![o, 0] : Fin 2 → ℕ) a + S1024x1024.size a ≤ S4096x1024.size a) : S1024x1024.Idx → Elt F .f32 :=
  (ReadAs.same (Val := Elt F)).apply (View.read (Elt F) (hb2.slice (Rect.unit (s := S4096x1024) ![o, 0] S1024x1024.size inb) (fun _ => rfl)).view w)

theorem slots_apart : Disjoint slot0.view.set slot1.view.set := by
  rw [show slot0.view.set = (sc2.view.slice (Rect.unit (s := S2x1024x1024) ![0, 0, 0] S1x1024x1024.size inb_S2x1024x1024_S1x1024x1024_0_0_0)).set from View.set_reshape _ _,
    show slot1.view.set = (sc2.view.slice (Rect.unit (s := S2x1024x1024) ![1, 0, 0] S1x1024x1024.size inb_S2x1024x1024_S1x1024x1024_1_0_0)).set from View.set_reshape _ _]
  exact View.disjoint_slice_of_sep _ _ _ 0 rfl rfl (Or.inl (by decide))

omit [FloatOps F] in
/-- Rows of a slot just written are rows of what was written. -/
theorem own {v : View sig .tc .vmem S1024x1024 .f32} (g : v.ty.Contents (Elt F)) (X : S1024x1024.Idx → Elt F .f32) (r : Rect S1024x1024) (x : r.shape.Idx) :
    v.readAt (Elt F) r.toLoadRect (v.write (Elt F) g X Finset.univ) x = X (r.emb x) := by
  rw [View.readAt_eq_ld, View.read_write_univ]; rfl

omit [FloatOps F] in
theorem own0 (g : slot0.view.ty.Contents (Elt F)) (X : S1024x1024.Idx → Elt F .f32) (r : Rect S1024x1024) :
    slot0.view.readAt (Elt F) r.toLoadRect (slot0.view.write (Elt F) g X Finset.univ) = fun x => X (r.emb x) := by
  funext x
  rw [View.readAt_eq_ld, View.read_write_univ]; rfl

omit [FloatOps F] in
theorem own1 (g : slot1.view.ty.Contents (Elt F)) (X : S1024x1024.Idx → Elt F .f32) (r : Rect S1024x1024) :
    slot1.view.readAt (Elt F) r.toLoadRect (slot1.view.write (Elt F) g X Finset.univ) = fun x => X (r.emb x) := by
  funext x
  rw [View.readAt_eq_ld, View.read_write_univ]; rfl

theorem sub (v : View sig .tc .vmem S1024x1024 .f32) (M : Finset S1024x1024.Idx) : v.setOn M ⊆ v.set :=
  Finset.map_subset_map.mpr (Finset.subset_univ _)

omit [FloatOps F] in
/-- What the other slot receives does not show. -/
theorem rows0 (g : slot0.view.ty.Contents (Elt F)) (X : S1024x1024.Idx → Elt F .f32) (r : Rect S1024x1024) :
    slot0.view.readAt (Elt F) r.toLoadRect (slot1.view.write (Elt F) g X Finset.univ) = slot0.view.readAt (Elt F) r.toLoadRect g := by
  refine View.readAt_congr fun i hi => View.write_of_not_mem _ _ _ fun hn => ?_
  exact Finset.disjoint_left.mp slots_apart (sub _ _ hi) (sub _ _ hn)

omit [FloatOps F] in
theorem rows1 (g : slot1.view.ty.Contents (Elt F)) (X : S1024x1024.Idx → Elt F .f32) (r : Rect S1024x1024) :
    slot1.view.readAt (Elt F) r.toLoadRect (slot0.view.write (Elt F) g X Finset.univ) = slot1.view.readAt (Elt F) r.toLoadRect g := by
  refine View.readAt_congr fun i hi => View.write_of_not_mem _ _ _ fun hn => ?_
  exact Finset.disjoint_left.mp slots_apart.symm (sub _ _ hi) (sub _ _ hn)

/-- Rows of a chunk, rounded: rows of the rounded weight. -/
theorem round1 (c : Dev nD) (w : Held (F := F) c hb1) {o p : ℕ} {inb} {inb' : ∀ a, (![p, 0] : Fin 2 → ℕ) a + S64x1024.size a ≤ S1024x1024.size a}
    (inb'' : ∀ a, (![p, o] : Fin 2 → ℕ) a + S64x1024.size a ≤ S1024x4096.size a) {v : S64x1024.Idx → Elt F .f32}
    (hv : ∀ x, v x = chunk1 c w o inb ((Rect.unit (s := S1024x1024) ![p, 0] S64x1024.size inb').emb x)) (x : S64x1024.Idx) :
    shapeCast S64x1024 (truncf (F := F) (s := S64x1024) .bf16 v bitsLt_bf16_f32) shapeCasts_S64x1024_S64x1024 x
      = rw1 (F := F) w ((Rect.unit (s := S1024x4096) ![p, o] S64x1024.size inb'').emb x) := by
  rw [congrFun (shapeCast_id _ shapeCasts_S64x1024_S64x1024) x, truncf_apply, rw1, truncf_apply, hv]
  refine congrArg _ (congrArg w (funext fun a => Fin.ext ?_))
  match a with
  | ⟨0, _⟩ => show 0 + 1 * (p + 1 * (x 0).val) = p + 1 * (x 0).val; omega
  | ⟨1, _⟩ => show o + 1 * (0 + 1 * (x 1).val) = o + 1 * (x 1).val; omega

theorem round2 (c : Dev nD) (w : Held (F := F) c hb2) {o p q : ℕ} {inb} {inb' : ∀ a, (![p, 0] : Fin 2 → ℕ) a + S64x1024.size a ≤ S1024x1024.size a}
    (inb'' : ∀ a, (![q, 0] : Fin 2 → ℕ) a + S64x1024.size a ≤ S4096x1024.size a) (hq : q = o + p) {v : S64x1024.Idx → Elt F .f32}
    (hv : ∀ x, v x = chunk2 c w o inb ((Rect.unit (s := S1024x1024) ![p, 0] S64x1024.size inb').emb x)) (x : S64x1024.Idx) :
    shapeCast S64x1024 (truncf (F := F) (s := S64x1024) .bf16 v bitsLt_bf16_f32) shapeCasts_S64x1024_S64x1024 x
      = rw2 (F := F) w ((Rect.unit (s := S4096x1024) ![q, 0] S64x1024.size inb'').emb x) := by
  subst hq
  rw [congrFun (shapeCast_id _ shapeCasts_S64x1024_S64x1024) x, truncf_apply, rw2, truncf_apply, hv]
  refine congrArg _ (congrArg w (funext fun a => Fin.ext ?_))
  match a with
  | ⟨0, _⟩ => show o + 1 * (p + 1 * (x 0).val) = o + p + 1 * (x 0).val; omega
  | ⟨1, _⟩ => show 0 + 1 * (0 + 1 * (x 1).val) = 0 + 1 * (x 1).val; omega

set_option maxHeartbeats 4000000 in
/-- The copies and the roundings, run once: what the two weight scratches are left with, as stores (last first), and the
    rows still to be stored; over any contents `fs2` of the stage. -/
noncomputable def loadRun (c : Dev nD) (i : grid0.Coords) (arg1 : Memref sig .tc .vmem S1024x1024 .f32) (harg1 : arg1.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole)
    (fh1 : Held (F := F) c hb1) (fh2 : Held (F := F) c hb2) (fs2 : Held (F := F) c sc2) :
    Σ' (r : FVec F S64x1024 .bf16), Σ' (L0 : List (View.Piece (Elt F) S1024x4096 .bf16)), { L1 : List (View.Piece (Elt F) S4096x1024 .bf16) //
      ∀ (W : Waits sig Unit) (K : FVec F S64x1024 .bf16 → sProp 𝕄),
        iprop((∃ f, at' c sc0 f) ∗ (∃ f, at' c sc1 f) ∗ at' c sc2 fs2
            ∗ semVal ((c : Thread nD τ), SemLoc.dma 8) 0 ∗ semVal ((c : Thread nD τ), SemLoc.dma 9) 0
            ∗ at' c hb1 fh1 ∗ at' c hb2 fh2 ∗ owes (c : Thread nD τ) 0 W
            ∗ (iprop((∃ f, at' c sc0 (sc0.view.writes (Elt F) f L0)) ∗ (∃ f, at' c sc1 (sc1.view.writes (Elt F) f L1))
                ∗ (∃ g, at' c sc2 (slot1.view.write (Elt F) g (chunk2 c fh2 3072 inb_S4096x1024_S1024x1024_3072_0) Finset.univ))
                ∗ semVal ((c : Thread nD τ), SemLoc.dma 8) 0 ∗ semVal ((c : Thread nD τ), SemLoc.dma 9) 0
                ∗ at' c hb1 fh1 ∗ at' c hb2 fh2 ∗ (∃ W', owes (c : Thread nD τ) 0 W')) -∗ K r))
          ⊢ wp frame (wpE (defs₀ (F := F)) Variants.none c none) Set.univ (k0_part44 i arg1 harg1 hb1 (Memref.isWhole_whole _) hb2 (Memref.isWhole_whole _) arg4 harg4 arg5 harg5 arg6 harg6 arg7 harg7 arg8 harg8 sc0 (Memref.isWhole_whole _) sc1 (Memref.isWhole_whole _) sc2 (Memref.isWhole_whole _) cc0_scratch3) K } := by
  refine ⟨?_, ?_, ?_, fun W K => ?run⟩
  case run =>
    simp only [k0_part44_eq_skeleton]; unfold k0_part44_skel
    iintro ⟨⟨%fs0, HS0⟩, ⟨%fs1, HS1⟩, HS2, Hq0, Hq1, Hh1, Hh2, HW, Hk⟩
    set_option sl_exec.dmaWindow true in set_option sl_exec.dmaWindowSet true in set_option sl_exec.respelt true in sl_exec_parts
    sl_step
    iapply Hk
    isplitl [HS0]; · iexists _; iexact HS0
    isplitl [HS1]; · iexists _; iexact HS1
    isplitl [HS2]; · iexists _; iexact HS2
    isplitl [Hq0]; · iexact Hq0
    isplitl [Hq1]; · iexact Hq1
    isplitl [Hh1]; · iexact Hh1
    isplitl [Hh2]; · iexact Hh2
    iexists _; iexact HW

section Pieces
/-- The same with the chunk and the row within it read off the row. -/
theorem round2' (c : Dev nD) (w : Held (F := F) c hb2) {q : ℕ} {inb : ∀ a, (![q / 1024 * 1024, 0] : Fin 2 → ℕ) a + S1024x1024.size a ≤ S4096x1024.size a}
    {inb' : ∀ a, (![q % 1024, 0] : Fin 2 → ℕ) a + S64x1024.size a ≤ S1024x1024.size a}
    (inb'' : ∀ a, (![q, 0] : Fin 2 → ℕ) a + S64x1024.size a ≤ S4096x1024.size a) {v : S64x1024.Idx → Elt F .f32}
    (hv : ∀ x, v x = chunk2 c w (q / 1024 * 1024) inb ((Rect.unit (s := S1024x1024) ![q % 1024, 0] S64x1024.size inb').emb x)) (x : S64x1024.Idx) :
    shapeCast S64x1024 (truncf (F := F) (s := S64x1024) .bf16 v bitsLt_bf16_f32) shapeCasts_S64x1024_S64x1024 x
      = rw2 (F := F) w ((Rect.unit (s := S4096x1024) ![q, 0] S64x1024.size inb'').emb x) :=
  round2 c w inb'' (by omega) hv x

variable (c : Dev nD) (i : grid0.Coords) (arg1 : Memref sig .tc .vmem S1024x1024 .f32) (harg1 : arg1.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole)
    (fh1 : Held (F := F) c hb1) (fh2 : Held (F := F) c hb2) (fs2 : Held (F := F) c sc2)

set_option maxHeartbeats 4000000 in
theorem pieces0 : View.PiecesOf (rw1 (F := F) fh1) (loadRun c i arg1 harg1 arg4 harg4 arg5 harg5 arg6 harg6 arg7 harg7 arg8 harg8 fh1 fh2 fs2).2.1 := by
  iterate 64
    refine ⟨fun x => ?_, ?_⟩
    · refine round1 c fh1 (inb := by decide) (inb' := by decide) (by decide) (fun y => ?_) x
      show View.readAt (Elt F) slot0.view (Rect.unit (s := S1024x1024) _ S64x1024.size _).toLoadRect _ y = _
      first | rw [rows0] | skip
      rw [own0]
      rfl
  trivial

set_option maxHeartbeats 4000000 in
theorem pieces1 : View.PiecesOf (rw2 (F := F) fh2) (loadRun c i arg1 harg1 arg4 harg4 arg5 harg5 arg6 harg6 arg7 harg7 arg8 harg8 fh1 fh2 fs2).2.2.1 := by
  iterate 62
    refine ⟨fun x => ?_, ?_⟩
    · refine round2' c fh2 (inb := by decide) (inb' := by decide) (by decide) (fun y => ?_) x
      show View.readAt (Elt F) slot1.view (Rect.unit (s := S1024x1024) _ S64x1024.size _).toLoadRect _ y = _
      first | rw [rows1] | skip
      rw [own1]
      rfl
  trivial

/-- With the two stores that follow, the second weight's scratch is covered by rows of the rounded weight. -/
abbrev last1 (r : FVec F S64x1024 .bf16) (v : Vec F S64x1024 .f32) : List (View.Piece (Elt F) S4096x1024 .bf16) :=
  ⟨Rect.unit (s := S4096x1024) ![4032, 0] S64x1024.size inb_S4096x1024_S64x1024_4032_0, k0_pay149 v⟩ ::
    ⟨Rect.unit (s := S4096x1024) ![3968, 0] S64x1024.size inb_S4096x1024_S64x1024_3968_0, k0_pay148 r⟩ ::
    (loadRun c i arg1 harg1 arg4 harg4 arg5 harg5 arg6 harg6 arg7 harg7 arg8 harg8 fh1 fh2 fs2).2.2.1

set_option maxHeartbeats 4000000 in
theorem pieces_last (r : FVec F S64x1024 .bf16) (hr : r = (loadRun c i arg1 harg1 arg4 harg4 arg5 harg5 arg6 harg6 arg7 harg7 arg8 harg8 fh1 fh2 fs2).1)
    (g : Held (F := F) c sc2) (v : Vec F S64x1024 .f32)
    (hv : v = slot1.view.readAt (Elt F) (Rect.unit (s := S1024x1024) ![960, 0] S64x1024.size inb_S1024x1024_S64x1024_960_0).toLoadRect
      (slot1.view.write (Elt F) g (chunk2 c fh2 3072 inb_S4096x1024_S1024x1024_3072_0) Finset.univ)) :
    View.PiecesOf (rw2 (F := F) fh2) (last1 c i arg1 harg1 arg4 harg4 arg5 harg5 arg6 harg6 arg7 harg7 arg8 harg8 fh1 fh2 fs2 r v) := by
  subst hr
  subst hv
  refine ⟨fun x => ?_, fun x => ?_, pieces1 c i arg1 harg1 arg4 harg4 arg5 harg5 arg6 harg6 arg7 harg7 arg8 harg8 fh1 fh2 fs2⟩
  all_goals
    refine round2' c fh2 (inb := by decide) (inb' := by decide) (by decide) (fun y => ?_) x
    show View.readAt (Elt F) slot1.view (Rect.unit (s := S1024x1024) _ S64x1024.size _).toLoadRect _ y = _
    rw [own1]
    try rfl

end Pieces

end Cert.MlpIdeal.Hand
end
end
-- ==== Proof.MlpIdealBody.lean ====
module
public import proofs.«01_k».proof.Proof.MlpIdealLoad

/-! The feed-forward block's body at a point: at the first it brings the two weights in, at every point it computes one
    block of the result from the weights held rounded. -/

@[expose] public section
set_option maxRecDepth 16384
noncomputable section
namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

variable {F : FTy → Type} [FloatOps F]

local notation "𝕄" => MT nD τ sig Unit (Elt F) ℕ (Pipeline.UD sig nD τ) ℕ

/-- A buffer stored over by blocks of `G` that cover it holds `G`. -/
theorem settle (c : Dev nD) (b : Ref sig .tc) {G : b.ty.shape.Idx → Elt F b.ty.elt} {f : Held (F := F) c (Memref.whole b)}
    {L : List (View.Piece (Elt F) b.ty.shape b.ty.elt)} (h : View.PiecesOf G L) (hc : ∀ y, ∃ p ∈ L, y ∈ p.1.set) :
    (at' c (Memref.whole b) ((Memref.whole b).view.writes (Elt F) f L) : sProp 𝕄) ⊢ at' c (Memref.whole b) G := by
  have e : (Memref.whole b).view.writes (Elt F) f L = G := by
    have h1 := View.read_writes_eq_canon (Memref.whole b).view f L hc
    have h2 : View.canon L = G := funext fun y => by
      have := View.canon_append_of_piecesOf G [] L h y (hc y)
      rwa [List.append_nil] at this
    exact h1.trans h2
  rw [e]

/-- Half of a block's rows; a column chunk of the first weight held rounded; a row chunk of the second. -/
def half (x : Vec F S1024x1024 .f32) (o : ℕ) (inb : ∀ a, (![o, 0] : Fin 2 → ℕ) a + S512x1024.size a ≤ S1024x1024.size a) : Vec F S512x1024 .f32 :=
  View.ld x (Rect.unit (s := S1024x1024) ![o, 0] S512x1024.size inb)
def cols (w : Vec F S1024x4096 .bf16) (o : ℕ) (inb : ∀ a, (![0, o] : Fin 2 → ℕ) a + S1024x1024.size a ≤ S1024x4096.size a) : Vec F S1024x1024 .bf16 :=
  View.ld w (Rect.unit (s := S1024x4096) ![0, o] S1024x1024.size inb)
def rows (w : Vec F S4096x1024 .bf16) (o : ℕ) (inb : ∀ a, (![o, 0] : Fin 2 → ℕ) a + S1024x1024.size a ≤ S4096x1024.size a) : Vec F S1024x1024 .bf16 :=
  View.ld w (Rect.unit (s := S4096x1024) ![o, 0] S1024x1024.size inb)
def line (x : Vec F S1x1024 .f32) : Vec F S1x1024 .f32 := View.ld x (Rect.unit (s := S1x1024) ![0, 0] S1x1024.size inb_S1x1024_S1x1024_0_0)

/-- The upper half of a block of the result, and the lower. -/
def upper (x0 : Vec F S1024x1024 .f32) (x1 x2 x3 x4 : Vec F S1x1024 .f32) (w1 : Vec F S1024x4096 .bf16) (w2 : Vec F S4096x1024 .bf16) : Vec F S512x1024 .f32 :=
  k0_pay155
    (k0_pay153 (k0_pay150 (half x0 0 inb_S1024x1024_S512x1024_0_0) (line x1) (line x2)) (k0_pay151 (half x0 0 inb_S1024x1024_S512x1024_0_0) (line x1) (line x2))
      (k0_pay152 (half x0 0 inb_S1024x1024_S512x1024_0_0) (line x1) (line x2) (cols w1 0 inb_S1024x4096_S1024x1024_0_0) (rows w2 0 inb_S4096x1024_S1024x1024_0_0))
      (cols w1 1024 inb_S1024x4096_S1024x1024_0_1024) (rows w2 1024 inb_S4096x1024_S1024x1024_1024_0)
      (cols w1 2048 inb_S1024x4096_S1024x1024_0_2048) (rows w2 2048 inb_S4096x1024_S1024x1024_2048_0)
      (cols w1 3072 inb_S1024x4096_S1024x1024_0_3072) (rows w2 3072 inb_S4096x1024_S1024x1024_3072_0))
    (line x3) (line x4)
    (k0_pay154 (k0_pay150 (half x0 0 inb_S1024x1024_S512x1024_0_0) (line x1) (line x2)) (k0_pay151 (half x0 0 inb_S1024x1024_S512x1024_0_0) (line x1) (line x2))
      (k0_pay152 (half x0 0 inb_S1024x1024_S512x1024_0_0) (line x1) (line x2) (cols w1 0 inb_S1024x4096_S1024x1024_0_0) (rows w2 0 inb_S4096x1024_S1024x1024_0_0))
      (cols w1 1024 inb_S1024x4096_S1024x1024_0_1024) (rows w2 1024 inb_S4096x1024_S1024x1024_1024_0)
      (cols w1 2048 inb_S1024x4096_S1024x1024_0_2048) (rows w2 2048 inb_S4096x1024_S1024x1024_2048_0)
      (cols w1 3072 inb_S1024x4096_S1024x1024_0_3072) (rows w2 3072 inb_S4096x1024_S1024x1024_3072_0))
def lower (x0 : Vec F S1024x1024 .f32) (x1 x2 x3 x4 : Vec F S1x1024 .f32) (w1 : Vec F S1024x4096 .bf16) (w2 : Vec F S4096x1024 .bf16) : Vec F S512x1024 .f32 :=
  k0_pay1
    (k0_pay158 (k0_pay156 (half x0 512 inb_S1024x1024_S512x1024_512_0) (line x1)) (k0_pay157 (line x2)))
    (k0_pay160 (k0_pay156 (half x0 512 inb_S1024x1024_S512x1024_512_0) (line x1)) (k0_pay157 (line x2))
      (cols w1 0 inb_S1024x4096_S1024x1024_0_0) (rows w2 0 inb_S4096x1024_S1024x1024_0_0)
      (cols w1 1024 inb_S1024x4096_S1024x1024_0_1024) (rows w2 1024 inb_S4096x1024_S1024x1024_1024_0)
      (cols w1 2048 inb_S1024x4096_S1024x1024_0_2048) (rows w2 2048 inb_S4096x1024_S1024x1024_2048_0))
    (k0_pay161 (k0_pay156 (half x0 512 inb_S1024x1024_S512x1024_512_0) (line x1)) (k0_pay157 (line x2)) (cols w1 3072 inb_S1024x4096_S1024x1024_0_3072))
    (rows w2 3072 inb_S4096x1024_S1024x1024_3072_0) (line x3) (line x4)

/-- What the body stores into the result's block, last first. -/
def halves (x0 : Vec F S1024x1024 .f32) (x1 x2 x3 x4 : Vec F S1x1024 .f32) (w1 : Vec F S1024x4096 .bf16) (w2 : Vec F S4096x1024 .bf16) :
    List (View.Piece (Elt F) S1024x1024 .f32) :=
  [⟨Rect.unit (s := S1024x1024) ![512, 0] S512x1024.size inb_S1024x1024_S512x1024_512_0, lower x0 x1 x2 x3 x4 w1 w2⟩,
   ⟨Rect.unit (s := S1024x1024) ![0, 0] S512x1024.size inb_S1024x1024_S512x1024_0_0, upper x0 x1 x2 x3 x4 w1 w2⟩]

/-- The body's own condition on the point: it is the first. -/
abbrev first (i : grid0.Coords) : Prop := (Scalar.cmpi .ne (Scalar.extui (Scalar.cmpi .eq (BitVec.ofNat 32 (i 0).val) 0#32)) 0#32) = 1#1

section Body
variable (c : Dev nD) (i : grid0.Coords) (arg1 : Memref sig .tc .vmem S1024x1024 .f32) (harg1 : arg1.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1024x1024 .f32) (harg8 : arg8.IsWhole)

theorem load_spec (fh1 : Held (F := F) c hb1) (fh2 : Held (F := F) c hb2) (fs2 : Held (F := F) c sc2) (W : Waits sig Unit) :
    iprop((∃ f, at' c sc0 f) ∗ (∃ f, at' c sc1 f) ∗ at' c sc2 fs2
            ∗ semVal ((c : Thread nD τ), SemLoc.dma 8) 0 ∗ semVal ((c : Thread nD τ), SemLoc.dma 9) 0
            ∗ at' c hb1 fh1 ∗ at' c hb2 fh2 ∗ owes (c : Thread nD τ) 0 W)
      ⊢ wp frame (wpE (defs₀ (F := F)) Variants.none c none) Set.univ (k0_part44 i arg1 harg1 hb1 (Memref.isWhole_whole _) hb2 (Memref.isWhole_whole _) arg4 harg4 arg5 harg5 arg6 harg6 arg7 harg7 arg8 harg8 sc0 (Memref.isWhole_whole _) sc1 (Memref.isWhole_whole _) sc2 (Memref.isWhole_whole _) cc0_scratch3)
          (fun r => (iprop(⌜r = (loadRun c i arg1 harg1 arg4 harg4 arg5 harg5 arg6 harg6 arg7 harg7 arg8 harg8 fh1 fh2 fs2).1⌝
            ∗ at' c sc0 (rw1 (F := F) fh1)
            ∗ (∃ f, at' c sc1 (sc1.view.writes (Elt F) f (loadRun c i arg1 harg1 arg4 harg4 arg5 harg5 arg6 harg6 arg7 harg7 arg8 harg8 fh1 fh2 fs2).2.2.1))
            ∗ (∃ g, at' c sc2 (slot1.view.write (Elt F) g (chunk2 c fh2 3072 inb_S4096x1024_S1024x1024_3072_0) Finset.univ))
            ∗ semVal ((c : Thread nD τ), SemLoc.dma 8) 0 ∗ semVal ((c : Thread nD τ), SemLoc.dma 9) 0
            ∗ at' c hb1 fh1 ∗ at' c hb2 fh2 ∗ (∃ W', owes (c : Thread nD τ) 0 W')) : sProp 𝕄)) := by
  iintro ⟨H0, H1, H2, Hq0, Hq1, Hh1, Hh2, HW⟩
  iapply (loadRun c i arg1 harg1 arg4 harg4 arg5 harg5 arg6 harg6 arg7 harg7 arg8 harg8 fh1 fh2 fs2).2.2.2 W _
  isplitl [H0]; · iexact H0
  isplitl [H1]; · iexact H1
  isplitl [H2]; · iexact H2
  isplitl [Hq0]; · iexact Hq0
  isplitl [Hq1]; · iexact Hq1
  isplitl [Hh1]; · iexact Hh1
  isplitl [Hh2]; · iexact Hh2
  isplitl [HW]; · iexact HW
  iintro ⟨⟨%f, H0⟩, H1, H2, Hq0, Hq1, Hh1, Hh2, HW⟩
  isplitr; · ipureintro; rfl
  isplitl [H0]
  · iapply settle c cc0_scratch0 (pieces0 c i arg1 harg1 arg4 harg4 arg5 harg5 arg6 harg6 arg7 harg7 arg8 harg8 fh1 fh2 fs2) (View.cover_of_tiledL _ ![64, 1024] (by sl_kernel_rfl))
    iexact H0
  isplitl [H1]; · iexact H1
  isplitl [H2]; · iexact H2
  isplitl [Hq0]; · iexact Hq0
  isplitl [Hq1]; · iexact Hq1
  isplitl [Hh1]; · iexact Hh1
  isplitl [Hh2]; · iexact Hh2
  iexact HW

/-- Later points: the weights are held rounded, and stay so. -/
theorem runB (hc0 : ¬ first i) (x0 : Vec F S1024x1024 .f32) (x1 x2 x3 x4 : Vec F S1x1024 .f32) (w1 : Held (F := F) c sc0) (w2 : Held (F := F) c sc1)
    (K : PUnit → sProp 𝕄) :
    iprop(owns (c : Thread nD τ) arg1 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ at' c sc0 w1 ∗ at' c sc1 w2
            ∗ (iprop(owns (c : Thread nD τ) arg1 fullShare x0 ∗ owns (c : Thread nD τ) arg4 fullShare x1 ∗ owns (c : Thread nD τ) arg5 fullShare x2
            ∗ owns (c : Thread nD τ) arg6 fullShare x3 ∗ owns (c : Thread nD τ) arg7 fullShare x4
              ∗ (∃ f, arg8.view.loc (c : Thread nD τ) ↦[arg8.view.set]{fullShare} arg8.view.writes (Elt F) f (halves x0 x1 x2 x3 x4 w1 w2))
              ∗ at' c sc0 w1 ∗ at' c sc1 w2) -∗ K PUnit.unit))
      ⊢ wp frame (wpE (defs₀ (F := F)) Variants.none c none) Set.univ (cc0_mlp i arg1 harg1 hb1 (Memref.isWhole_whole _) hb2 (Memref.isWhole_whole _) arg4 harg4 arg5 harg5 arg6 harg6 arg7 harg7 arg8 harg8 sc0 (Memref.isWhole_whole _) sc1 (Memref.isWhole_whole _) sc2 (Memref.isWhole_whole _) cc0_scratch3) K := by
  simp only [cc0_mlp_eq_skeleton]; unfold cc0_mlp_skel
  simp only [k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HS0, HS1, Hk⟩
  subst hf0 hf1 hf2 hf3 hf4
  sl_exec (disch := first | sl_exact hc0)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; iexact H5
  isplitl [HS0]; · iexact HS0
  iexact HS1

/-- The first point: the weights are brought in and held rounded, and the block is computed. -/
theorem runA (hc0 : first i) (x0 : Vec F S1024x1024 .f32) (x1 x2 x3 x4 : Vec F S1x1024 .f32) (fh1 : Held (F := F) c hb1) (fh2 : Held (F := F) c hb2)
    (W : Waits sig Unit) (K : PUnit → sProp 𝕄) :
    iprop(owns (c : Thread nD τ) arg1 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg8 fullShare d)
            ∗ (∃ f, at' c sc0 f) ∗ (∃ f, at' c sc1 f) ∗ (∃ f, at' c sc2 f)
            ∗ semVal ((c : Thread nD τ), SemLoc.dma 8) 0 ∗ semVal ((c : Thread nD τ), SemLoc.dma 9) 0
            ∗ at' c hb1 fh1 ∗ at' c hb2 fh2 ∗ owes (c : Thread nD τ) 0 W
            ∗ (iprop(owns (c : Thread nD τ) arg1 fullShare x0 ∗ owns (c : Thread nD τ) arg4 fullShare x1 ∗ owns (c : Thread nD τ) arg5 fullShare x2
            ∗ owns (c : Thread nD τ) arg6 fullShare x3 ∗ owns (c : Thread nD τ) arg7 fullShare x4
              ∗ (∃ f, arg8.view.loc (c : Thread nD τ) ↦[arg8.view.set]{fullShare} arg8.view.writes (Elt F) f (halves x0 x1 x2 x3 x4 (rw1 (F := F) fh1) (rw2 (F := F) fh2)))
              ∗ at' c sc0 (rw1 (F := F) fh1) ∗ at' c sc1 (rw2 (F := F) fh2) ∗ (∃ f, at' c sc2 f)
              ∗ semVal ((c : Thread nD τ), SemLoc.dma 8) 0 ∗ semVal ((c : Thread nD τ), SemLoc.dma 9) 0
              ∗ at' c hb1 fh1 ∗ at' c hb2 fh2 ∗ (∃ W', owes (c : Thread nD τ) 0 W')) -∗ K PUnit.unit))
      ⊢ wp frame (wpE (defs₀ (F := F)) Variants.none c none) Set.univ (cc0_mlp i arg1 harg1 hb1 (Memref.isWhole_whole _) hb2 (Memref.isWhole_whole _) arg4 harg4 arg5 harg5 arg6 harg6 arg7 harg7 arg8 harg8 sc0 (Memref.isWhole_whole _) sc1 (Memref.isWhole_whole _) sc2 (Memref.isWhole_whole _) cc0_scratch3) K := by
  simp only [cc0_mlp_eq_skeleton]; unfold cc0_mlp_skel
  simp only [k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, HS0⟩, ⟨%fs1, HS1⟩, ⟨%fs2, HS2⟩, Hq0, Hq1, Hh1, Hh2, HW, Hk⟩
  subst hf0 hf1 hf2 hf3 hf4
  have hcut := load_spec c i arg1 harg1 arg4 harg4 arg5 harg5 arg6 harg6 arg7 harg7 arg8 harg8 fh1 fh2 fs2 W
  ihave H0 := (park _) $$ H0
  sl_exec (disch := first | sl_exact hc0)
  ihave HS1 := (settle c cc0_scratch1 (pieces_last c i arg1 harg1 arg4 harg4 arg5 harg5 arg6 harg6 arg7 harg7 arg8 harg8 fh1 fh2 fs2 k0_part44_r (by assumption) gk0_part44_1 (runA.sl.v1275 c fh2 gk0_part44_1) rfl)
    (View.cover_of_tiledL _ ![64, 1024] (by sl_kernel_rfl))) $$ Hk0_part44_2
  ihave H0 := (unpark _) $$ H0
  sl_exec (disch := first | sl_exact hc0)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; iexact H5
  isplitl [Hk0_part44_1]; · iexact Hk0_part44_1
  isplitl [HS1]; · iexact HS1
  isplitl [Hk0_part44_3]; · iexists _; iexact Hk0_part44_3
  isplitl [Hk0_part44_4]; · iexact Hk0_part44_4
  isplitl [Hk0_part44_5]; · iexact Hk0_part44_5
  isplitl [Hk0_part44_6]; · iexact Hk0_part44_6
  isplitl [Hk0_part44_7]; · iexact Hk0_part44_7
  iexists _; iexact Hk0_part44_8

end Body

end Cert.MlpIdeal.Hand
end
end
-- ==== Proof.MlpIdealFrame.lean ====
module
public import proofs.«01_k».proof.Proof.MlpIdealBody

/-! The feed-forward call's launch. Between points the two weights are held rounded in scratch from the first point on;
    the staging area for their copies is at anything, both transfer counters are at zero, and the weights in main memory
    are as launched. -/

@[expose] public section
set_option maxRecDepth 16384
noncomputable section
namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal Cert.MlpIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first-point condition, at a point of the grid. -/
theorem first_iff (t : Fin cfg0.N) : first (grid0.coords t) ↔ t.val = 0 := by
  have ht : t.val < 32 := Nat.lt_of_lt_of_eq t.isLt N_0
  have e0 : (grid0.coords t 0).val = t.val / 1 % 32 := Pipeline.Grid.coords_val t 0 (by decide) rfl
  simp only [first, e0]
  word_cmp

/-! ## The launch's own resources -/

theorem region (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The two transfer counters, one per half of the staging area. -/
abbrev cells : Fin 2 → SemLoc sig := fun j => (![SemLoc.dma 8, SemLoc.dma 9] : Fin 2 → SemLoc sig) j

theorem cells_own : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 8) 0 ∗ semVal ((c : Thread nD τ), SemLoc.dma 9) 0) := by
  rw [Pipeline.ownSems0_eq_of_list c cells [0, 1] (by decide) (by decide)]; rfl

/-- The weights, which the body copies out of main memory itself. -/
def weights : Finset (Ref sig .tc) := {main_arg1, main_arg2}

theorem weights_sub : weights ⊆ Pipeline.restRefs sig spec0 := by decide

theorem weights_eq (c : Dev nD) :
    (bigSep weights (fun b => ((c : Thread nD τ).loc b) ↦{fullShare} V m c b) : sProp 𝕄)
      = iprop(at' c hb1 (V m c main_arg1) ∗ at' c hb2 (V m c main_arg2)) := by
  rw [BI.bigSep_eq_bigSepL_of_eq [main_arg1, main_arg2] (by decide) (by decide)]; rfl

theorem start_eq (c : Dev nD) :
    (Pipeline.ΦD cells spec0 weights (V m) c : sProp 𝕄)
      = iprop(iprop((∃ f, at' c sc0 f) ∗ (∃ f, at' c sc1 f) ∗ (∃ f, at' c sc2 f)) ∗ (∃ r, prngReg c r)
          ∗ iprop(semVal ((c : Thread nD τ), SemLoc.dma 8) 0 ∗ semVal ((c : Thread nD τ), SemLoc.dma 9) 0)
          ∗ iprop(at' c hb1 (V m c main_arg1) ∗ at' c hb2 (V m c main_arg2))) := by
  rw [Pipeline.ΦD_eq, scopedRest0_eq, cells_eq, weights_eq]

/-! ## What is held between points, and what a point leaves -/

/-- Before the first point, what the launch hands over; from then on, the rounded weights in scratch besides. -/
def between (c : Dev nD) : ℕ → sProp 𝕄
  | 0 => Pipeline.ΦD cells spec0 weights (V m) c
  | _ + 1 => iprop(iprop(at' c sc0 (rw1 (F := F) (V m c main_arg1)) ∗ at' c sc1 (rw2 (F := F) (V m c main_arg2)) ∗ (∃ f, at' c sc2 f)) ∗ (∃ r, prngReg c r)
          ∗ iprop(semVal ((c : Thread nD τ), SemLoc.dma 8) 0 ∗ semVal ((c : Thread nD τ), SemLoc.dma 9) 0)
          ∗ iprop(at' c hb1 (V m c main_arg1) ∗ at' c hb2 (V m c main_arg2)))

theorem between_pos (c : Dev nD) (n : ℕ) (h : n ≠ 0) : between (F := F) m c n = between m c (n - 1 + 1) := by
  rw [Nat.sub_add_cancel (Nat.pos_of_ne_zero h)]

/-- The block of the result a point leaves. -/
def left (c : Dev nD) (t : Fin cfg0.N) : Vec F S1024x1024 .f32 :=
  View.canon (halves (iblk m c 0 t) (iblk m c 1 t) (iblk m c 2 t) (iblk m c 3 t) (iblk m c 4 t) (rw1 (F := F) (V m c main_arg1)) (rw2 (F := F) (V m c main_arg2)))

theorem halves_cover (x0 : Vec F S1024x1024 .f32) (x1 x2 x3 x4 : Vec F S1x1024 .f32) (c : Dev nD) (w1 : Held (F := F) c sc0) (w2 : Held (F := F) c sc1)
    (y : S1024x1024.Idx) : ∃ p ∈ halves x0 x1 x2 x3 x4 w1 w2, y ∈ p.1.set :=
  View.cover_of_tiledL (halves x0 x1 x2 x3 x4 w1 w2) ![512, 1024] (by sl_kernel_rfl) y

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ t := between m c t.val
  q _ := fullShare
  owed _ := 0

theorem A_eq (c : Dev nD) (w : Fin cfg0.W) : (dats m 0 c).A w = V m c (Pipeline.arrRef spec0 w) := by
  dsimp only [dats]

/-- Each input's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A result buffer stored over by a point's two halves holds the block the point leaves. -/
theorem leaves (c : Dev nD) (t : Fin cfg0.N) (M : Memref sig .tc .vmem S1024x1024 .f32) :
    (iprop(∃ f, M.view.loc (c : Thread nD τ) ↦[M.view.set]{fullShare} M.view.writes (Elt F) f
        (halves (iblk m c 0 t) (iblk m c 1 t) (iblk m c 2 t) (iblk m c 3 t) (iblk m c 4 t) (rw1 (F := F) (V m c main_arg1)) (rw2 (F := F) (V m c main_arg2)))) : sProp 𝕄)
      ⊢ owns (c : Thread nD τ) M fullShare (left m c t) := by
  iintro ⟨%f, H⟩
  unfold owns; iexists _; isplitr
  swap; · iexact H
  ipureintro; exact View.read_writes_eq_canon _ _ _ (halves_cover _ _ _ _ _ c _ _)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = between m c t.val from rfl, show (dats m 0 c).Φ t.succ = between m c (t.val + 1) from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl, show (dats m 0 c).after 5 t = left m c t from rfl]
  unfold Dat.owesAt Pipeline.owesWithin
  rw [show (dats m 0 c).owed t.castSucc = 0 from rfl, show (dats m 0 c).owed t.succ = 0 from rfl]
  by_cases hz : t.val = 0
  · rw [hz, show between (F := F) m c 0 = Pipeline.ΦD cells spec0 weights (V m) c from rfl, start_eq]
    iintro ⟨⟨⟨HS0, HS1, HS2⟩, Hg, ⟨Hq0, Hq1⟩, ⟨Hh1, Hh2⟩⟩, ⟨%W, -, HW⟩, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ ((first_iff t).mpr hz) (iblk m c 0 t) (iblk m c 1 t) (iblk m c 2 t) (iblk m c 3 t) (iblk m c 4 t)
      (V m c main_arg1) (V m c main_arg2) W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [Hq0]; · iexact Hq0
    isplitl [Hq1]; · iexact Hq1
    isplitl [Hh1]; · iexact Hh1
    isplitl [Hh2]; · iexact Hh2
    isplitl [HW]; · iexact HW
    iintro ⟨H0, H1, H2, H3, H4, H5, HS0, HS1, HS2, Hq0, Hq1, Hh1, Hh2, ⟨%W', HW'⟩⟩
    isplitl [HS0 HS1 HS2 Hg Hq0 Hq1 Hh1 Hh2]
    · unfold between
      isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iapply leaves m c t _
    iexact H5
  · rw [between_pos m c t.val hz]
    unfold between
    iintro ⟨⟨⟨HS0, HS1, HS2⟩, Hrest⟩, HW, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ (fun h => hz ((first_iff t).mp h)) (iblk m c 0 t) (iblk m c 1 t) (iblk m c 2 t) (iblk m c 3 t) (iblk m c 4 t)
      (rw1 (F := F) (V m c main_arg1)) (rw2 (F := F) (V m c main_arg2)) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HS2 Hrest]
    · isplitl [HS0 HS1 HS2]
      · isplitl [HS0]; · iexact HS0
        isplitl [HS1]; · iexact HS1
        iexact HS2
      iexact Hrest
    isplitl [HW]; · iexact HW
    isplitl [H0]; · iexact H0
    isplitl [H1]; · iexact H1
    isplitl [H2]; · iexact H2
    isplitl [H3]; · iexact H3
    isplitl [H4]; · iexact H4
    iapply leaves m c t _
    iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

/-- What is held after the last point gives the launch back its buffers. -/
theorem give_back (c : Dev nD) (n : ℕ) : (between (F := F) m c (n + 1) : sProp 𝕄) ⊢ Pipeline.ΦD cells spec0 weights (V m) c := by
  rw [start_eq]
  unfold between
  iintro ⟨⟨HS0, HS1, HS2⟩, Hrest⟩
  isplitl [HS0 HS1 HS2]
  · isplitl [HS0]; · iexists _; iexact HS0
    isplitl [HS1]; · iexists _; iexact HS1
    iexact HS2
  iexact Hrest

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cells defs₀ Variants.none cells_own weights weights_sub m ρ main
    (hbody := fun c => (obligation m c).loose) (hshare := fun c => (dats m 0 c).share_full fun _ => rfl)
    (howed := fun _ _ => rfl) (V := V m) (hmain := region m Variants.none) (hA := A_eq m)
    (hin := fun _ => .rfl)
    (hout := fun c => by
      rw [show (dats m 0 c).Φ (Fin.last cfg0.N) = between m c (31 + 1) from congrArg (between m c) N_0]
      exact give_back m c 31)

/-- The run, with the result named: the block each point leaves, written back; the arguments as launched; every counter at zero. -/
theorem run_blocks : θ_run defs (onTc (τ := τ) (main (F := F))) ⟨m, fun _ => 0, ρ⟩ (fun r => (∀ c : Dev nD,
      r.2.mem ((c : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).1 0).trans (((dats m 0 c).arrAt_in 0 rfl _).trans (A_eq m c 0)),
      (h.1 c).2 main_arg1 (Pipeline.mem_restRefs_of main_arg1 (by decide) (by decide)),
      (h.1 c).2 main_arg2 (Pipeline.mem_restRefs_of main_arg2 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_main m ρ)

end Cert.MlpIdeal.Hand
end
end
-- ==== Proof.KvTerm.lean ====
/- What the key and value reference computes, named in pieces: the row mean, the row normalisation, the two projections. -/
module

public import proofs.«01_k».proof.Proof.Gen.KvRefIdeal.Run
public import Idealize.ShloMosaic.PureOps.Ideal

@[expose] public section

set_option maxRecDepth 16384

noncomputable section

namespace Cert.KvRefIdeal.Term

open Cert.KvRefIdeal Cert.KvRefIdeal.Gen Idealize.ShloMosaic Idealize.ShloMosaic.TcCoe Idealize.SL.Sem

/-- The mean of every row. -/
def mean (x : FVec Ideal S16x256x1024 .f32) : FVec Ideal S16x256x1 .f32 :=
  Host.divf (F := Ideal) (broadcastInDim S16x256x1 ![0, 1] bcast_S16x256_S16x256x1_0_1 (Host.reduceAdd (F := Ideal) x (constant S_ .f32 0x00000000#32) reducesTo_S16x256x1024_S16x256_d2 h_S_))
    (broadcastInDim S16x256x1 ![] bcast_S_S16x256x1 (constant S_ .f32 0x44800000#32))

/-- Every row less its mean. -/
def centred (x : FVec Ideal S16x256x1024 .f32) : FVec Ideal S16x256x1024 .f32 :=
  subf (F := Ideal) x (broadcastInDim S16x256x1024 ![0, 1, 2] bcast_S16x256x1_S16x256x1024_0_1_2 (mean x))

/-- One over the root of a row's variance and the small constant. -/
def scale (x : FVec Ideal S16x256x1024 .f32) : FVec Ideal S16x256x1 .f32 :=
  Host.rsqrt (F := Ideal) (addf (mean (mulf (centred x) (centred x))) (broadcastInDim S16x256x1 ![] bcast_S_S16x256x1 (constant S_ .f32 0x3727C5AC#32)))

/-- The normalised memory. -/
def normed (x : FVec Ideal S16x256x1024 .f32) (g b : FVec Ideal S1x1024 .f32) : FVec Ideal S16x256x1024 .f32 :=
  addf (F := Ideal) (mulf (mulf (centred x) (broadcastInDim S16x256x1024 ![0, 1, 2] bcast_S16x256x1_S16x256x1024_0_1_2 (scale x)))
    (broadcastInDim S16x256x1024 ![0, 1, 2] bcast_S1x1x1024_S16x256x1024_0_1_2 (broadcastInDim S1x1x1024 ![1, 2] bcast_S1x1024_S1x1x1024_1_2 g)))
    (broadcastInDim S16x256x1024 ![0, 1, 2] bcast_S1x1x1024_S16x256x1024_0_1_2 (broadcastInDim S1x1x1024 ![1, 2] bcast_S1x1024_S1x1x1024_1_2 b))

/-- The keys, scaled. -/
def keys (x : FVec Ideal S16x256x1024 .f32) (g b : FVec Ideal S1x1024 .f32) (w : FVec Ideal S1024x1024 .f32) : FVec Ideal S4096x1024 .bf16 :=
  shapeCast S4096x1024 (truncf (F := Ideal) .bf16 (mulf (Host.dotGeneral dot_S16x256x1024_S1024x1024_S16x256x1024_2_0_01_1_n_n none (normed x g b) w)
    (broadcastInDim S16x256x1024 ![] bcast_S_S16x256x1024 (constant S_ .f32 0x3D800000#32))) bitsLt_bf16_f32) shapeCasts_S16x256x1024_S4096x1024

/-- The values. -/
def vals (x : FVec Ideal S16x256x1024 .f32) (g b : FVec Ideal S1x1024 .f32) (w : FVec Ideal S1024x1024 .f32) : FVec Ideal S4096x1024 .bf16 :=
  shapeCast S4096x1024 (truncf (F := Ideal) .bf16 (Host.dotGeneral dot_S16x256x1024_S1024x1024_S16x256x1024_2_0_01_1_n_n none (normed x g b) w) bitsLt_bf16_f32) shapeCasts_S16x256x1024_S4096x1024

/-- The run's results in these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = keys (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v31) = vals (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  simp only [keys, vals, normed, scale, mean, centred]
  exact Cert.KvRefIdeal.Value.run (F := Ideal) m ρ

end Cert.KvRefIdeal.Term

end
-- ==== Proof.KvValue.lean ====
module
public import proofs.«01_k».proof.Proof.Gen.KvIdeal.Value
public import proofs.«01_k».proof.Proof.KvTerm
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KvIdeal.Tie

open Cert.KvIdeal Cert.KvIdeal.Gen

variable (m : (ℓ : Loc nD τ sig) → Buf (Elt Ideal) ℓ)

/-- Where each window's block sits: block row `t` for the memory rows and the two results, the whole array for the others. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- Rows of `X` rounded and stored: the ideal rounding changes nothing, so the piece is those rows. -/
theorem cast_rows (X : Vec Ideal S1024x1024 .f32) (off : Fin 2 → ℕ) (inb : ∀ a, off a + S64x1024.size a ≤ S1024x1024.size a) (x : S64x1024.Idx) :
    shapeCast S64x1024 (truncf (F := Ideal) .bf16 (View.ld X (Rect.unit (s := S1024x1024) off S64x1024.size inb)) bitsLt_bf16_f32) shapeCasts_S64x1024_S64x1024 x
      = X ((Rect.unit (s := S1024x1024) off S64x1024.size inb).emb x) := by
  exact congrFun (Idealize.ShloMosaic.shapeCast_id (truncf (F := Ideal) .bf16 (View.ld X (Rect.unit (s := S1024x1024) off S64x1024.size inb)) bitsLt_bf16_f32) shapeCasts_S64x1024_S64x1024) x

/-- The buffer after stores that are all blocks of `G` and cover it reads `G`. -/
theorem canon_pieces {S : Shape} {e : EltTy} (G : S.Idx → Elt Ideal e) (L : List (View.Piece (Elt Ideal) S e))
    (h : View.PiecesOf G L) (hc : ∀ y, ∃ p ∈ L, y ∈ p.1.set) : View.canon L = G := by
  funext y
  have := View.canon_append_of_piecesOf G [] L h y (hc y)
  rwa [List.append_nil] at this

set_option maxHeartbeats 1000000 in
/-- After the first point the first scratch holds the rounded key weights. -/
theorem wk_first (c : Dev nD) (t : Fin cfg0.N) (h0 : t.val % 4 = 0) :
    (outsAt0 m c t.val t.isLt).2.2.1 = iblk m c 3 t := by
  rw [outsAt0_A m c t h0]
  frame_out
  refine canon_pieces _ _ ?_ (View.cover_of_tiledL _ ![64, 1024] (by sl_kernel_rfl))
  iterate 16 (refine ⟨fun x => cast_rows _ _ _ x, ?_⟩)
  trivial

set_option maxHeartbeats 1000000 in
/-- After the first point the second scratch holds the rounded value weights. -/
theorem wv_first (c : Dev nD) (t : Fin cfg0.N) (h0 : t.val % 4 = 0) :
    (outsAt0 m c t.val t.isLt).2.2.2 = iblk m c 4 t := by
  rw [outsAt0_A m c t h0]
  frame_out
  refine canon_pieces _ _ ?_ (View.cover_of_tiledL _ ![64, 1024] (by sl_kernel_rfl))
  iterate 16 (refine ⟨fun x => cast_rows _ _ _ x, ?_⟩)
  trivial

/-- A whole square read back after covering stores is what the stores left. -/
theorem read_back {κ : Kind} {sp : Space} (v : View sig κ sp S1024x1024 .bf16) (L : List (View.Piece (Elt Ideal) S1024x1024 .bf16))
    (G : S1024x1024.Idx → Elt Ideal .bf16) (h : View.canon L = G)
    (inb : ∀ a, (![0, 0] : Fin 2 → ℕ) a + S1024x1024.size a ≤ S1024x1024.size a) :
    v.readCov L (Rect.unit (s := S1024x1024) ![0, 0] S1024x1024.size inb).toLoadRect = G := by
  rw [View.readCov_eq_canon', h]
  exact View.ld_unit_lit inb G (by decide)

set_option maxHeartbeats 1000000 in
theorem k_first (c : Dev nD) (t : Fin cfg0.N) (h0 : t.val % 4 = 0) :
    (outsAt0 m c t.val t.isLt).1 = k0_pay35 (iblk m c 0 t) (iblk m c 1 t) (iblk m c 2 t) (iblk m c 3 t) := by
  rw [outsAt0_A m c t h0]
  frame_out
  generalize iblk m c 0 t = a
  generalize iblk m c 1 t = b
  generalize iblk m c 2 t = d
  generalize iblk m c 3 t = w
  rw [read_back (G := w)]
  refine canon_pieces _ _ ?_ (View.cover_of_tiledL _ ![64, 1024] (by sl_kernel_rfl))
  iterate 16 (refine ⟨fun x => cast_rows _ _ _ x, ?_⟩)
  trivial

set_option maxHeartbeats 1000000 in
theorem v_first (c : Dev nD) (t : Fin cfg0.N) (h0 : t.val % 4 = 0) :
    (outsAt0 m c t.val t.isLt).2.1 = k0_pay1 (k0_pay34 (iblk m c 0 t) (iblk m c 1 t) (iblk m c 2 t)) (iblk m c 4 t) (constant S1024x1024 .f32 0x00000000#32) := by
  rw [outsAt0_A m c t h0]
  frame_out
  generalize iblk m c 0 t = a
  generalize iblk m c 1 t = b
  generalize iblk m c 2 t = d
  generalize iblk m c 4 t = w
  rw [read_back (G := w)]
  refine canon_pieces _ _ ?_ (View.cover_of_tiledL _ ![64, 1024] (by sl_kernel_rfl))
  iterate 16 (refine ⟨fun x => cast_rows _ _ _ x, ?_⟩)
  trivial

theorem k_later (c : Dev nD) (t : Fin cfg0.N) (h0 : ¬ t.val % 4 = 0) :
    (outsAt0 m c t.val t.isLt).1 = k0_pay35 (iblk m c 0 t) (iblk m c 1 t) (iblk m c 2 t) (outsAt0 m c (t.val - 1) (Nat.lt_of_le_of_lt (Nat.sub_le _ _) t.isLt)).2.2.1 := by
  rw [outsAt0_B m c t h0]
  frame_out
  simp only [read_unread_whole]

theorem v_later (c : Dev nD) (t : Fin cfg0.N) (h0 : ¬ t.val % 4 = 0) :
    (outsAt0 m c t.val t.isLt).2.1 = k0_pay1 (k0_pay34 (iblk m c 0 t) (iblk m c 1 t) (iblk m c 2 t)) (outsAt0 m c (t.val - 1) (Nat.lt_of_le_of_lt (Nat.sub_le _ _) t.isLt)).2.2.2 (constant S1024x1024 .f32 0x00000000#32) := by
  rw [outsAt0_B m c t h0]
  frame_out
  simp only [read_unread_whole]

/-- The two weight scratches hold the rounded weights after every point. -/
theorem held (c : Dev nD) : ∀ (n : ℕ) (hn : n < cfg0.N), (outsAt0 m c n hn).2.2.1 = m ((c : Thread nD τ).loc main_arg3)
    ∧ (outsAt0 m c n hn).2.2.2 = m ((c : Thread nD τ).loc main_arg4) := by
  have e3 : ∀ t, iblk m c 3 t = m ((c : Thread nD τ).loc main_arg3) := fun t => by blk_ext! [iblk, V, idx t]
  have e4 : ∀ t, iblk m c 4 t = m ((c : Thread nD τ).loc main_arg4) := fun t => by blk_ext! [iblk, V, idx t]
  intro n
  induction n with
  | zero => exact fun hn => ⟨(wk_first m c ⟨0, hn⟩ rfl).trans (e3 _), (wv_first m c ⟨0, hn⟩ rfl).trans (e4 _)⟩
  | succ n ih =>
    intro hn
    by_cases h0 : (n + 1) % 4 = 0
    · exact ⟨(wk_first m c ⟨n + 1, hn⟩ h0).trans (e3 _), (wv_first m c ⟨n + 1, hn⟩ h0).trans (e4 _)⟩
    · have hB := outsAt0_B m c ⟨n + 1, hn⟩ h0
      have := ih (Nat.lt_of_succ_lt hn)
      constructor
      · rw [show (outsAt0 m c (n + 1) hn) = _ from hB]; exact this.1
      · rw [show (outsAt0 m c (n + 1) hn) = _ from hB]; exact this.2

/-- The keys a point stores, from the memory's block and the weights. -/
theorem k_at (c : Dev nD) (t : Fin cfg0.N) :
    (outsAt0 m c t.val t.isLt).1 = k0_pay35 (iblk m c 0 t) (iblk m c 1 t) (iblk m c 2 t) (m ((c : Thread nD τ).loc main_arg3)) := by
  by_cases h0 : t.val % 4 = 0
  · rw [k_first m c t h0]
    congr 1
    blk_ext! [iblk, V, idx t]
  · rw [k_later m c t h0, (held m c _ _).1]

/-- The values a point stores. -/
theorem v_at (c : Dev nD) (t : Fin cfg0.N) :
    (outsAt0 m c t.val t.isLt).2.1 = k0_pay1 (k0_pay34 (iblk m c 0 t) (iblk m c 1 t) (iblk m c 2 t)) (m ((c : Thread nD τ).loc main_arg4)) (constant S1024x1024 .f32 0x00000000#32) := by
  by_cases h0 : t.val % 4 = 0
  · rw [v_first m c t h0]
    congr 1
    blk_ext! [iblk, V, idx t]
  · rw [v_later m c t h0, (held m c _ _).2]

/-- An entry of a row normalised: less the mean, times one over the root of the variance, scaled and shifted. -/
def lnv (f : Fin 1024 → EReal) (g b : EReal) (k : Fin 1024) : EReal :=
  (f k - Ideal.div (∑ x, f x) (Ideal.ofBits .f32 0x44800000#32))
      * Ideal.rsqrt (Ideal.div (∑ x, (f x - Ideal.div (∑ x, f x) (Ideal.ofBits .f32 0x44800000#32)) * (f x - Ideal.div (∑ x, f x) (Ideal.ofBits .f32 0x44800000#32))) (Ideal.ofBits .f32 0x44800000#32)
          + Ideal.ofBits .f32 0x3727C5AC#32) * g + b

open Cert.KvRefIdeal.Term in
theorem mean_apply (x : FVec Ideal Cert.KvRefIdeal.S16x256x1024 .f32) (p : Fin 16) (r : Fin 256) (k : Fin 1) :
    mean x (ix3 p r k) = Ideal.div (∑ k', x (ix3 p r k')) (Ideal.ofBits .f32 0x44800000#32) := by
  pointwise [mean]

open Cert.KvRefIdeal.Term in
theorem normed_apply (x : FVec Ideal Cert.KvRefIdeal.S16x256x1024 .f32) (g b : FVec Ideal Cert.KvRefIdeal.S1x1024 .f32) (p : Fin 16) (r : Fin 256) (k : Fin 1024) :
    normed x g b (ix3 p r k) = lnv (fun k' => x (ix3 p r k')) (g (ix2 0 k)) (b (ix2 0 k)) k := by
  pointwise [normed, scale, centred, mean_apply, lnv]

theorem pay34_apply (x : FVec Ideal S1024x1024 .f32) (g b : FVec Ideal S1x1024 .f32) (r k : Fin 1024) :
    (k0_pay34 (F := Ideal) x g b (ix2 r k) : EReal) = lnv (fun k' => x (ix2 r k')) (g (ix2 0 k)) (b (ix2 0 k)) k := by
  pointwise [k0_pay34, lnv]

theorem pay35_apply (x : FVec Ideal S1024x1024 .f32) (g b : FVec Ideal S1x1024 .f32) (w : FVec Ideal S1024x1024 .bf16) (r k : Fin 1024) :
    (k0_pay35 (F := Ideal) x g b w (ix2 r k) : EReal) = (∑ x', lnv (fun k' => x (ix2 r k')) (g (ix2 0 x')) (b (ix2 0 x')) x' * w (ix2 x' k)) * Ideal.ofBits .f32 0x3D800000#32 := by
  pointwise [k0_pay35, pay34_apply]

theorem points : cfg0.N = 4 := by decide

/-- The array's row that holds a block's row. -/
def row (t : Fin cfg0.N) (r : Fin 1024) : Fin 4096 := ⟨t.val * 1024 + r.val, by have := t.isLt; have := points; omega⟩

/-- The memory's block at a point, entry by entry. -/
theorem mem_at (c : Dev nD) (t : Fin cfg0.N) (r k : Fin 1024) :
    iblk m c 0 t (ix2 r k) = m ((c : Thread nD τ).loc main_arg0)
      (ix3 ⟨(row t r).val / 256, by have := (row t r).isLt; omega⟩ ⟨(row t r).val % 256, by omega⟩ k) := by
  have he : (win0_0.blk t).view.emb (ix2 r k) = ix2 (row t r) k := by
    funext a
    apply Fin.ext
    match a with
    | ⟨0, _⟩ => show win0_0.index t 0 * 1024 + 1 * r.val = _; rw [(idx t).1]; simp [row, ix2]
    | ⟨1, _⟩ => show win0_0.index t 1 * 1024 + 1 * k.val = _; rw [(idx t).1]; simp [ix2]
  show V m c main_v0 ((win0_0.blk t).view.emb (ix2 r k)) = _
  rw [he]
  entry_read
  pointwise

theorem scale_at (c : Dev nD) (t : Fin cfg0.N) : iblk m c 1 t = m ((c : Thread nD τ).loc main_arg1) := by
  blk_ext! [iblk, V, idx t]

theorem shift_at (c : Dev nD) (t : Fin cfg0.N) : iblk m c 2 t = m ((c : Thread nD τ).loc main_arg2) := by
  blk_ext! [iblk, V, idx t]

/-- Result 5's block at a point sits at rows of the array. -/
theorem emb5 (t : Fin cfg0.N) (r k : Fin 1024) : (win0_5.blk t).view.emb (ix2 r k) = ix2 (row t r) k := by
  funext a
  apply Fin.ext
  match a with
  | ⟨0, _⟩ => show win0_5.index t 0 * 1024 + 1 * r.val = _; rw [(idx t).2.2.2.2.2.1]; simp [row, ix2]
  | ⟨1, _⟩ => show win0_5.index t 1 * 1024 + 1 * k.val = _; rw [(idx t).2.2.2.2.2.1]; simp [ix2]

/-- Result 6's block at a point sits at rows of the array. -/
theorem emb6 (t : Fin cfg0.N) (r k : Fin 1024) : (win0_6.blk t).view.emb (ix2 r k) = ix2 (row t r) k := by
  funext a
  apply Fin.ext
  match a with
  | ⟨0, _⟩ => show win0_6.index t 0 * 1024 + 1 * r.val = _; rw [(idx t).2.2.2.2.2.2]; simp [row, ix2]
  | ⟨1, _⟩ => show win0_6.index t 1 * 1024 + 1 * k.val = _; rw [(idx t).2.2.2.2.2.2]; simp [ix2]

open Cert.KvRefIdeal.Term in
/-- The first result is the reference's keys. -/
theorem final5 (c : Dev nD) : (dats m 0 c).arrAt 5 cfg0.N
    = keys (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, k_at, scale_at, shift_at]
  idx_vars y
  rw [pay35_apply]
  refine Eq.trans ?_ (congrArg _ (emb5 t y0 y1)).symm
  pointwise [keys, normed_apply]
  simp only [mem_at m c t y0]

open Cert.KvRefIdeal.Term in
/-- The second result is the reference's values. -/
theorem final6 (c : Dev nD) : (dats m 0 c).arrAt 6 cfg0.N
    = vals (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6, v_at, scale_at, shift_at]
  idx_vars y
  refine Eq.trans ?_ (congrArg _ (emb6 t y0 y1)).symm
  pointwise [k0_pay1, pay34_apply, vals, normed_apply]
  simp only [mem_at m c t y0]

end Cert.KvIdeal.Tie

end
-- ==== Proof.KvClaim.lean ====
/- The claims about the keys and values, each from its run. -/
module

public import proofs.«01_k».proof.Defs
public import proofs.«01_k».proof.Proof.Gen.Kv.Frame
public import proofs.«01_k».proof.Proof.Gen.KvIdeal.Value
public import proofs.«01_k».proof.Proof.KvTerm
public import proofs.«01_k».proof.Proof.KvValue
public import Idealize.ShloMosaic.Adequacy

@[expose] public section

set_option maxRecDepth 16384

noncomputable section

namespace Cert.KvClaim

open Idealize.ShloMosaic Idealize.SL.Sem Cert.KvRefIdeal.Term

/-- The kernel ends with its arguments unchanged and every counter at zero. -/
theorem frame : quiescent_Kv (hKv := Cert.Kv.Gen.facts) := fun m ρ _ => Cert.Kv.Gen.frame m ρ

/-- So does its ideal reading. -/
theorem frame_ideal : quiescent_KvIdeal (hKvIdeal := Cert.KvIdeal.Gen.facts) := fun m ρ _ => Cert.KvIdeal.Gen.frame m ρ

/-- So does the reference. -/
theorem frame_ref : quiescent_KvRefIdeal (hKvRefIdeal := Cert.KvRefIdeal.Gen.facts) := fun m ρ _ =>
  (θ_run _ _ _).mono (fun r h => ⟨fun c => (h c).2.2, sem_eq_zero_of_no_sems (by decide) r.2⟩) (run m ρ)

/-- The kernel's two results are the reference's. -/
theorem algebraic : algebraic_KvIdeal_KvRefIdeal (hKvIdeal := Cert.KvIdeal.Gen.facts) (hKvRefIdeal := Cert.KvRefIdeal.Gen.facts) := by
  intro m ρ m' ρ' _ hag
  refine ⟨fun c => keys (m ((c.tc : Thread Cert.KvIdeal.nD Cert.KvIdeal.τ).loc Cert.KvIdeal.main_arg0)) (m ((c.tc : Thread Cert.KvIdeal.nD Cert.KvIdeal.τ).loc Cert.KvIdeal.main_arg1))
      (m ((c.tc : Thread Cert.KvIdeal.nD Cert.KvIdeal.τ).loc Cert.KvIdeal.main_arg2)) (m ((c.tc : Thread Cert.KvIdeal.nD Cert.KvIdeal.τ).loc Cert.KvIdeal.main_arg3)),
    fun c => vals (m ((c.tc : Thread Cert.KvIdeal.nD Cert.KvIdeal.τ).loc Cert.KvIdeal.main_arg0)) (m ((c.tc : Thread Cert.KvIdeal.nD Cert.KvIdeal.τ).loc Cert.KvIdeal.main_arg1))
      (m ((c.tc : Thread Cert.KvIdeal.nD Cert.KvIdeal.τ).loc Cert.KvIdeal.main_arg2)) (m ((c.tc : Thread Cert.KvIdeal.nD Cert.KvIdeal.τ).loc Cert.KvIdeal.main_arg4)), ?_, ?_⟩
  · exact (θ_run _ _ _).mono (fun _ h c => ⟨(h c).1.trans (Cert.KvIdeal.Tie.final5 m c), (h c).2.1.trans (Cert.KvIdeal.Tie.final6 m c), (h c).2.2⟩)
      (Cert.KvIdeal.Value.run_blocks m ρ)
  · refine (θ_run _ _ _).mono (fun _ h c => ⟨(h c).1.trans ?_, (h c).2.1.trans ?_, (h c).2.2⟩) (run m' ρ')
    · obtain ⟨h0, h1, h2, h3, _⟩ := hag c
      exact congr (congr (congr (congrArg keys h0) h1) h2) h3
    · obtain ⟨h0, h1, h2, _, h4⟩ := hag c
      exact congr (congr (congr (congrArg vals h0) h1) h2) h4

end Cert.KvClaim

end
-- ==== Proof.MlpTerm.lean ====
/- What the feed-forward reference computes, named in pieces: the row normalisation, the hidden layer, the result. -/
module

public import proofs.«01_k».proof.Proof.Gen.MlpRefIdeal.Run
public import Idealize.ShloMosaic.PureOps.Ideal

@[expose] public section

set_option maxRecDepth 16384

noncomputable section

namespace Cert.MlpRefIdeal.Term

open Cert.MlpRefIdeal Cert.MlpRefIdeal.Gen Idealize.ShloMosaic Idealize.ShloMosaic.TcCoe Idealize.SL.Sem

/-- The mean of every row. -/
def mean (x : FVec Ideal S32768x1024 .f32) : FVec Ideal S32768x1 .f32 :=
  Host.divf (F := Ideal) (broadcastInDim S32768x1 ![0] bcast_S32768_S32768x1_0 (Host.reduceAdd (F := Ideal) x (constant S_ .f32 0x00000000#32) reducesTo_S32768x1024_S32768_d1 h_S_))
    (broadcastInDim S32768x1 ![] bcast_S_S32768x1 (constant S_ .f32 0x44800000#32))

/-- Every row less its mean. -/
def centred (x : FVec Ideal S32768x1024 .f32) : FVec Ideal S32768x1024 .f32 :=
  subf (F := Ideal) x (broadcastInDim S32768x1024 ![0, 1] bcast_S32768x1_S32768x1024_0_1 (mean x))

/-- One over the root of a row's variance and the small constant. -/
def scale (x : FVec Ideal S32768x1024 .f32) : FVec Ideal S32768x1 .f32 :=
  Host.rsqrt (F := Ideal) (addf (mean (mulf (centred x) (centred x))) (broadcastInDim S32768x1 ![] bcast_S_S32768x1 (constant S_ .f32 0x3727C5AC#32)))

/-- The rows normalised, scaled and shifted. -/
def normed (x : FVec Ideal S32768x1024 .f32) (g b : FVec Ideal S1x1024 .f32) : FVec Ideal S32768x1024 .f32 :=
  addf (F := Ideal) (mulf (mulf (centred x) (broadcastInDim S32768x1024 ![0, 1] bcast_S32768x1_S32768x1024_0_1 (scale x)))
    (broadcastInDim S32768x1024 ![0, 1] bcast_S1x1024_S32768x1024_0_1 g)) (broadcastInDim S32768x1024 ![0, 1] bcast_S1x1024_S32768x1024_0_1 b)

/-- The hidden layer, before it is squared. -/
def activ (h : FVec Ideal S32768x1024 .f32) (w : FVec Ideal S1024x4096 .f32) : FVec Ideal S32768x4096 .f32 :=
  maximumf (F := Ideal) (Host.dotGeneral dot_S32768x1024_S1024x4096_S32768x4096_1_0_0_1_n_n none h w) (broadcastInDim S32768x4096 ![] bcast_S_S32768x4096 (constant S_ .f32 0x00000000#32))

/-- The rows with the feed-forward layer's output added. -/
def mixed (h : FVec Ideal S32768x1024 .f32) (w1 : FVec Ideal S1024x4096 .f32) (w2 : FVec Ideal S4096x1024 .f32) : FVec Ideal S32768x1024 .f32 :=
  addf (F := Ideal) (mulf (broadcastInDim S32768x1024 ![] bcast_S_S32768x1024 (constant S_ .f32 0x3F9837F0#32)) h)
    (Host.dotGeneral dot_S32768x4096_S4096x1024_S32768x1024_1_0_0_1_n_n none (mulf (activ h w1) (activ h w1)) w2)

/-- The result. -/
def result (x : FVec Ideal S32768x1024 .f32) (w1 : FVec Ideal S1024x4096 .f32) (w2 : FVec Ideal S4096x1024 .f32) (g2 b2 g3 b3 : FVec Ideal S1x1024 .f32) :
    FVec Ideal S32768x1024 .f32 :=
  normed (mixed (normed x g2 b2) w1 w2) g3 b3

/-- The run's result in these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (by unfold Cert.MlpRefIdeal.Value.res_main_v50 result mixed activ normed scale centred mean; rfl), (h c).2⟩)
    (Cert.MlpRefIdeal.Value.run (F := Ideal) m ρ)

end Cert.MlpRefIdeal.Term

end
-- ==== Proof.MlpValue.lean ====
module
public import proofs.«01_k».proof.Proof.MlpIdealFrame
public import proofs.«01_k».proof.Proof.MlpTerm
public import Idealize.ShloMosaic.Lib.Pipeline.ValueKit
public import Idealize.ShloMosaic.Lib.Pointwise
public import Idealize.ShloMosaic.Lib.Pipeline.ReadBack

/-! The feed-forward block's value: a row of the result, in closed form, on both sides. -/

@[expose] public section

set_option maxRecDepth 16384

noncomputable section

open Idealize.ShloMosaic Idealize.ShloMosaic.TcCoe Idealize.SL.Sem
open Idealize.ShloMosaic.Pipeline (Dat)

namespace Cert.MlpIdeal.Tie

open Cert.MlpIdeal Cert.MlpIdeal.Gen Cert.MlpIdeal.Hand

/-! ## A row in closed form -/

/-- An entry of a row normalised: less the mean, times one over the root of the variance, scaled and shifted. -/
def unitRow (f : Fin 1024 → EReal) (g b : EReal) (k : Fin 1024) : EReal :=
  (f k - Ideal.div (∑ x, f x) (Ideal.ofBits .f32 0x44800000#32))
      * Ideal.rsqrt (Ideal.div (∑ x, (f x - Ideal.div (∑ x, f x) (Ideal.ofBits .f32 0x44800000#32)) * (f x - Ideal.div (∑ x, f x) (Ideal.ofBits .f32 0x44800000#32))) (Ideal.ofBits .f32 0x44800000#32)
          + Ideal.ofBits .f32 0x3727C5AC#32) * g + b

/-- A hidden unit: the row against a column of the first weight, cut off below at zero. -/
def unit (h w : Fin 1024 → EReal) : EReal := max (∑ k, h k * w k) (Ideal.ofBits .f32 0x00000000#32)

/-- What `1024` hidden units add to an entry. -/
def share (h : Fin 1024 → EReal) (wa : Fin 1024 → Fin 1024 → EReal) (wb : Fin 1024 → EReal) : EReal :=
  ∑ j, unit h (fun k => wa k j) * unit h (fun k => wa k j) * wb j

/-- An entry of a row with all `4096` hidden units' output added. -/
def added (h : Fin 1024 → EReal) (w1 : Fin 1024 → Fin 4096 → EReal) (w2 : Fin 4096 → EReal) (k : Fin 1024) : EReal :=
  Ideal.ofBits .f32 0x3F9837F0#32 * h k + ∑ j, unit h (fun k => w1 k j) * unit h (fun k => w1 k j) * w2 j

/-- A position in one of the four chunks of the hidden layer. -/
def at4 (o : ℕ) (ho : o + 1024 ≤ 4096) (j : Fin 1024) : Fin 4096 := ⟨o + j.val, by have := j.isLt; omega⟩

/-- A sum over the hidden layer, chunk by chunk from zero. -/
theorem four (f : Fin 4096 → EReal) :
    ((((0 + ∑ j, f (at4 0 (by decide) j)) + ∑ j, f (at4 1024 (by decide) j)) + ∑ j, f (at4 2048 (by decide) j)) + ∑ j, f (at4 3072 (by decide) j)) = ∑ j, f j := by
  have h1 := Fin.sum_univ_add (a := 1024) (b := 3072) f
  have h2 := Fin.sum_univ_add (a := 1024) (b := 2048) fun i => f (Fin.natAdd 1024 i)
  have h3 := Fin.sum_univ_add (a := 1024) (b := 1024) fun i => f (Fin.natAdd 1024 (Fin.natAdd 1024 i))
  refine Eq.trans ?_ h1.symm
  refine Eq.trans ?_ (congrArg _ h2.symm)
  refine Eq.trans ?_ (congrArg (fun z => _ + (_ + z)) h3.symm)
  rw [zero_add, add_assoc, add_assoc]
  have e0 : ∀ j, at4 0 (by decide) j = Fin.castAdd 3072 j := fun j => Fin.ext (Nat.zero_add _)
  have e1 : ∀ j, at4 1024 (by decide) j = Fin.natAdd 1024 (Fin.castAdd 2048 j) := fun j => rfl
  have e2 : ∀ j, at4 2048 (by decide) j = Fin.natAdd 1024 (Fin.natAdd 1024 (Fin.castAdd 1024 j)) := fun j => Fin.ext (by simp [at4]; omega)
  have e3 : ∀ j, at4 3072 (by decide) j = Fin.natAdd 1024 (Fin.natAdd 1024 (Fin.natAdd 1024 j)) := fun j => Fin.ext (by simp [at4]; omega)
  simp only [e0, e1, e2, e3]

/-! ## The reference -/

section Reference
open Cert.MlpRefIdeal.Term

theorem mean_apply (x : FVec Ideal Cert.MlpRefIdeal.S32768x1024 .f32) (r : Fin 32768) (k : Fin 1) :
    mean x (ix2 r k) = Ideal.div (∑ k', x (ix2 r k')) (Ideal.ofBits .f32 0x44800000#32) := by
  pointwise [mean]

theorem normed_apply (x : FVec Ideal Cert.MlpRefIdeal.S32768x1024 .f32) (g b : FVec Ideal Cert.MlpRefIdeal.S1x1024 .f32) (r : Fin 32768) (k : Fin 1024) :
    normed x g b (ix2 r k) = unitRow (fun k' => x (ix2 r k')) (g (ix2 0 k)) (b (ix2 0 k)) k := by
  pointwise [normed, scale, centred, mean_apply, unitRow]

theorem activ_apply (h : FVec Ideal Cert.MlpRefIdeal.S32768x1024 .f32) (w : FVec Ideal Cert.MlpRefIdeal.S1024x4096 .f32) (r : Fin 32768) (j : Fin 4096) :
    (activ h w (ix2 r j) : EReal) = unit (fun k => h (ix2 r k)) (fun k => w (ix2 k j)) := by
  pointwise [activ, unit]

theorem mixed_apply (h : FVec Ideal Cert.MlpRefIdeal.S32768x1024 .f32) (w1 : FVec Ideal Cert.MlpRefIdeal.S1024x4096 .f32) (w2 : FVec Ideal Cert.MlpRefIdeal.S4096x1024 .f32)
    (r : Fin 32768) (k : Fin 1024) :
    (mixed h w1 w2 (ix2 r k) : EReal) = added (fun k => h (ix2 r k)) (fun k j => w1 (ix2 k j)) (fun j => w2 (ix2 j k)) k := by
  pointwise [mixed, activ_apply, added]

theorem result_apply (x : FVec Ideal Cert.MlpRefIdeal.S32768x1024 .f32) (w1 : FVec Ideal Cert.MlpRefIdeal.S1024x4096 .f32) (w2 : FVec Ideal Cert.MlpRefIdeal.S4096x1024 .f32)
    (g2 b2 g3 b3 : FVec Ideal Cert.MlpRefIdeal.S1x1024 .f32) (r : Fin 32768) (k : Fin 1024) :
    (result x w1 w2 g2 b2 g3 b3 (ix2 r k) : EReal)
      = unitRow (fun q => added (fun p => unitRow (fun p' => x (ix2 r p')) (g2 (ix2 0 p)) (b2 (ix2 0 p)) p) (fun p j => w1 (ix2 p j)) (fun j => w2 (ix2 j q)) q)
          (g3 (ix2 0 k)) (b3 (ix2 0 k)) k := by
  rw [result, normed_apply]
  simp only [mixed_apply, normed_apply]

end Reference

/-! ## The kernel's payloads -/

section Payloads

variable (x : FVec Ideal S512x1024 .f32) (g b : FVec Ideal S1x1024 .f32)

theorem pay150_apply (r : Fin 512) (k : Fin 1024) :
    (k0_pay150 (F := Ideal) x g b (ix2 r k) : EReal) = unitRow (fun k' => x (ix2 r k')) (g (ix2 0 k)) (b (ix2 0 k)) k := by
  pointwise [k0_pay150, unitRow]

theorem pay151_apply (r : Fin 512) (k : Fin 1024) :
    (k0_pay151 (F := Ideal) x g b (ix2 r k) : EReal) = unitRow (fun k' => x (ix2 r k')) (g (ix2 0 k)) (b (ix2 0 k)) k := by
  pointwise [k0_pay151, pay150_apply]

theorem pay152_apply (wa wb : FVec Ideal S1024x1024 .bf16) (r : Fin 512) (k : Fin 1024) :
    (k0_pay152 (F := Ideal) x g b wa wb (ix2 r k) : EReal)
      = 0 + share (fun p => unitRow (fun p' => x (ix2 r p')) (g (ix2 0 p)) (b (ix2 0 p)) p) (fun p j => wa (ix2 p j)) (fun j => wb (ix2 j k)) := by
  pointwise [k0_pay152, pay151_apply, share, unit]

theorem pay153_apply (h : FVec Ideal S512x1024 .f32) (hb : FVec Ideal S512x1024 .bf16) (s : FVec Ideal S512x1024 .f32) (wa wb wc wd we wf : FVec Ideal S1024x1024 .bf16)
    (r : Fin 512) (k : Fin 1024) :
    (k0_pay153 (F := Ideal) h hb s wa wb wc wd we wf (ix2 r k) : EReal)
      = Ideal.ofBits .f32 0x3F9837F0#32 * h (ix2 r k)
        + (((s (ix2 r k) + share (fun p => hb (ix2 r p)) (fun p j => wa (ix2 p j)) (fun j => wb (ix2 j k)))
          + share (fun p => hb (ix2 r p)) (fun p j => wc (ix2 p j)) (fun j => wd (ix2 j k)))
          + share (fun p => hb (ix2 r p)) (fun p j => we (ix2 p j)) (fun j => wf (ix2 j k))) := by
  pointwise [k0_pay153, share, unit]

theorem pay154_apply (h : FVec Ideal S512x1024 .f32) (hb : FVec Ideal S512x1024 .bf16) (s : FVec Ideal S512x1024 .f32) (wa wb wc wd we wf : FVec Ideal S1024x1024 .bf16)
    (r : Fin 512) :
    (k0_pay154 (F := Ideal) h hb s wa wb wc wd we wf (ix1 r) : EReal) = ∑ k, k0_pay153 (F := Ideal) h hb s wa wb wc wd we wf (ix2 r k) := by
  pointwise [k0_pay154]

theorem pay155_apply (s : FVec Ideal S512 .f32) (hs : ∀ r, (s (ix1 r) : EReal) = ∑ k, x (ix2 r k)) (r : Fin 512) (k : Fin 1024) :
    (k0_pay155 (F := Ideal) x g b s (ix2 r k) : EReal) = unitRow (fun k' => x (ix2 r k')) (g (ix2 0 k)) (b (ix2 0 k)) k := by
  pointwise [k0_pay155, unitRow, hs]

theorem pay158_apply (r : Fin 512) (k : Fin 1024) :
    (k0_pay158 (F := Ideal) (k0_pay156 (F := Ideal) x g) (k0_pay157 (F := Ideal) b) (ix2 r k) : EReal) = unitRow (fun k' => x (ix2 r k')) (g (ix2 0 k)) (b (ix2 0 k)) k := by
  pointwise [k0_pay158, k0_pay156, k0_pay157, unitRow]

theorem pay159_apply (h h' : FVec Ideal S512x1024 .f32) (r : Fin 512) (k : Fin 1024) :
    (k0_pay159 (F := Ideal) h h' (ix2 r k) : EReal) = k0_pay158 (F := Ideal) h h' (ix2 r k) := by
  pointwise [k0_pay159]

theorem pay160_apply (h h' : FVec Ideal S512x1024 .f32) (wa wb wc wd we wf : FVec Ideal S1024x1024 .bf16) (r : Fin 512) (k : Fin 1024) :
    (k0_pay160 (F := Ideal) h h' wa wb wc wd we wf (ix2 r k) : EReal)
      = (((0 + share (fun p => k0_pay158 (F := Ideal) h h' (ix2 r p)) (fun p j => wa (ix2 p j)) (fun j => wb (ix2 j k)))
          + share (fun p => k0_pay158 (F := Ideal) h h' (ix2 r p)) (fun p j => wc (ix2 p j)) (fun j => wd (ix2 j k)))
          + share (fun p => k0_pay158 (F := Ideal) h h' (ix2 r p)) (fun p j => we (ix2 p j)) (fun j => wf (ix2 j k))) := by
  pointwise [k0_pay160, pay159_apply, share, unit]

theorem pay161_apply (h h' : FVec Ideal S512x1024 .f32) (wa : FVec Ideal S1024x1024 .bf16) (r : Fin 512) (j : Fin 1024) :
    (k0_pay161 (F := Ideal) h h' wa (ix2 r j) : EReal) = unit (fun p => k0_pay158 (F := Ideal) h h' (ix2 r p)) (fun p => wa (ix2 p j)) := by
  pointwise [k0_pay161, pay159_apply, unit]

theorem pay1_apply (h s u : FVec Ideal S512x1024 .f32) (wb : FVec Ideal S1024x1024 .bf16) (r : Fin 512) (k : Fin 1024) :
    (k0_pay1 (F := Ideal) h s u wb g b (ix2 r k) : EReal)
      = unitRow (fun k' => Ideal.ofBits .f32 0x3F9837F0#32 * h (ix2 r k') + (s (ix2 r k') + ∑ j, u (ix2 r j) * u (ix2 r j) * wb (ix2 j k')))
          (g (ix2 0 k)) (b (ix2 0 k)) k := by
  pointwise [k0_pay1, unitRow]

end Payloads

/-! ## A block's halves -/

/-- Rows of a block from `o` on, entry by entry. -/
theorem half_apply (x : Vec Ideal S1024x1024 .f32) (o : ℕ) (inb) (r : Fin 512) (k : Fin 1024) (ho : o + r.val < 1024) :
    half x o inb (ix2 r k) = x (ix2 ⟨o + r.val, ho⟩ k) := by
  refine congrArg x (funext fun a => Fin.ext ?_)
  match a with
  | ⟨0, _⟩ => show o + 1 * r.val = o + r.val; omega
  | ⟨1, _⟩ => show 0 + 1 * k.val = k.val; omega

theorem cols_apply (w : Vec Ideal S1024x4096 .bf16) (o : ℕ) (inb) (ho : o + 1024 ≤ 4096) (p j : Fin 1024) :
    cols w o inb (ix2 p j) = w (ix2 p (at4 o ho j)) := by
  refine congrArg w (funext fun a => Fin.ext ?_)
  match a with
  | ⟨0, _⟩ => show 0 + 1 * p.val = p.val; omega
  | ⟨1, _⟩ => show o + 1 * j.val = o + j.val; omega

theorem rows_apply (w : Vec Ideal S4096x1024 .bf16) (o : ℕ) (inb) (ho : o + 1024 ≤ 4096) (j q : Fin 1024) :
    rows w o inb (ix2 j q) = w (ix2 (at4 o ho j) q) := by
  refine congrArg w (funext fun a => Fin.ext ?_)
  match a with
  | ⟨0, _⟩ => show o + 1 * j.val = o + j.val; omega
  | ⟨1, _⟩ => show 0 + 1 * q.val = q.val; omega

theorem line_apply (x : Vec Ideal S1x1024 .f32) (k : Fin 1024) : line x (ix2 0 k) = x (ix2 0 k) := by
  refine congrArg x (funext fun a => Fin.ext ?_)
  match a with
  | ⟨0, _⟩ => show 0 + 1 * 0 = 0; omega
  | ⟨1, _⟩ => show 0 + 1 * k.val = k.val; omega

/-- A row of the result, from the row of the input. -/
def outRow (f : Fin 1024 → EReal) (g2 b2 g3 b3 : Fin 1024 → EReal) (w1 : Fin 1024 → Fin 4096 → EReal) (w2 : Fin 4096 → Fin 1024 → EReal) (k : Fin 1024) : EReal :=
  unitRow (fun q => added (fun p => unitRow f (g2 p) (b2 p) p) w1 (fun j => w2 j q) q) (g3 k) (b3 k) k

/-- The four chunks' shares are the sum over the hidden layer. -/
theorem shares (h : Fin 1024 → EReal) (w1 : Fin 1024 → Fin 4096 → EReal) (w2 : Fin 4096 → EReal) (k : Fin 1024) :
    Ideal.ofBits .f32 0x3F9837F0#32 * h k
        + ((((0 + share h (fun p j => w1 p (at4 0 (by decide) j)) (fun j => w2 (at4 0 (by decide) j)))
          + share h (fun p j => w1 p (at4 1024 (by decide) j)) (fun j => w2 (at4 1024 (by decide) j)))
          + share h (fun p j => w1 p (at4 2048 (by decide) j)) (fun j => w2 (at4 2048 (by decide) j)))
          + share h (fun p j => w1 p (at4 3072 (by decide) j)) (fun j => w2 (at4 3072 (by decide) j)))
      = added h w1 w2 k :=
  congrArg _ (four fun j => unit h (fun k => w1 k j) * unit h (fun k => w1 k j) * w2 j)

theorem unitRow_congr {f f' : Fin 1024 → EReal} {g g' b b' : EReal} {k : Fin 1024} (hf : ∀ q, f q = f' q) (hg : g = g') (hb : b = b') :
    unitRow f g b k = unitRow f' g' b' k := by
  rw [funext hf, hg, hb]

section Halves

variable (x0 : Vec Ideal S1024x1024 .f32) (x1 x2 x3 x4 : Vec Ideal S1x1024 .f32) (w1 : Vec Ideal S1024x4096 .bf16) (w2 : Vec Ideal S4096x1024 .bf16)

/-- A block of the result, entry by entry. -/
def block : S1024x1024.Idx → EReal := fun y =>
  outRow (fun p => x0 (ix2 (y 0) p)) (fun p => x1 (ix2 0 p)) (fun p => x2 (ix2 0 p)) (fun p => x3 (ix2 0 p)) (fun p => x4 (ix2 0 p))
    (fun p j => w1 (ix2 p j)) (fun j q => w2 (ix2 j q)) (y 1)

theorem upper_apply (r : Fin 512) (k : Fin 1024) :
    (upper x0 x1 x2 x3 x4 w1 w2 (ix2 r k) : EReal) = block x0 x1 x2 x3 x4 w1 w2 (ix2 ⟨0 + r.val, by have := r.isLt; omega⟩ k) := by
  unfold upper
  rw [pay155_apply _ _ _ _ (fun r => pay154_apply _ _ _ _ _ _ _ _ _ r)]
  simp only [pay153_apply, pay152_apply, pay151_apply, pay150_apply, line_apply,
    half_apply _ _ _ r _ (show 0 + r.val < 1024 by have := r.isLt; omega),
    cols_apply _ 0 _ (by decide), cols_apply _ 1024 _ (by decide), cols_apply _ 2048 _ (by decide), cols_apply _ 3072 _ (by decide),
    rows_apply _ 0 _ (by decide), rows_apply _ 1024 _ (by decide), rows_apply _ 2048 _ (by decide), rows_apply _ 3072 _ (by decide)]
  unfold block outRow
  exact unitRow_congr (fun q => shares (fun p => unitRow (fun p' => x0 (ix2 ⟨0 + r.val, by have := r.isLt; omega⟩ p')) (x1 (ix2 0 p)) (x2 (ix2 0 p)) p)
    (fun p j => w1 (ix2 p j)) (fun j => w2 (ix2 j q)) q) rfl rfl

theorem lower_apply (r : Fin 512) (k : Fin 1024) :
    (lower x0 x1 x2 x3 x4 w1 w2 (ix2 r k) : EReal) = block x0 x1 x2 x3 x4 w1 w2 (ix2 ⟨512 + r.val, by have := r.isLt; omega⟩ k) := by
  unfold lower
  rw [pay1_apply]
  simp only [pay161_apply, pay160_apply, pay158_apply, line_apply,
    half_apply _ _ _ r _ (show 512 + r.val < 1024 by have := r.isLt; omega),
    cols_apply _ 0 _ (by decide), cols_apply _ 1024 _ (by decide), cols_apply _ 2048 _ (by decide), cols_apply _ 3072 _ (by decide),
    rows_apply _ 0 _ (by decide), rows_apply _ 1024 _ (by decide), rows_apply _ 2048 _ (by decide), rows_apply _ 3072 _ (by decide)]
  unfold block outRow
  exact unitRow_congr (fun q => shares (fun p => unitRow (fun p' => x0 (ix2 ⟨512 + r.val, by have := r.isLt; omega⟩ p')) (x1 (ix2 0 p)) (x2 (ix2 0 p)) p)
    (fun p j => w1 (ix2 p j)) (fun j => w2 (ix2 j q)) q) rfl rfl

/-- A piece's place in the block. -/
theorem emb_rows (o : ℕ) (inb : ∀ a, (![o, 0] : Fin 2 → ℕ) a + S512x1024.size a ≤ S1024x1024.size a) (r : Fin 512) (k : Fin 1024) (ho : o + r.val < 1024) :
    (Rect.unit (s := S1024x1024) ![o, 0] S512x1024.size inb).emb (ix2 r k) = ix2 ⟨o + r.val, ho⟩ k := by
  funext a
  apply Fin.ext
  match a with
  | ⟨0, _⟩ => show o + 1 * r.val = o + r.val; omega
  | ⟨1, _⟩ => show 0 + 1 * k.val = k.val; omega

theorem pieces : View.PiecesOf (Val := Elt Ideal) (e := .f32) (block x0 x1 x2 x3 x4 w1 w2) (halves x0 x1 x2 x3 x4 w1 w2) := by
  refine ⟨fun y => ?_, fun y => ?_, trivial⟩
  · idx_vars y
    exact (lower_apply x0 x1 x2 x3 x4 w1 w2 y0 y1).trans (congrArg (block x0 x1 x2 x3 x4 w1 w2) (emb_rows 512 _ y0 y1 _).symm)
  · idx_vars y
    exact (upper_apply x0 x1 x2 x3 x4 w1 w2 y0 y1).trans (congrArg (block x0 x1 x2 x3 x4 w1 w2) (emb_rows 0 _ y0 y1 _).symm)

end Halves

/-! ## The array -/

section Array

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The array's row of a block's row. -/
def rowAt (t : Fin cfg0.N) (r : Fin 1024) : Fin 32768 := ⟨t.val * 1024 + r.val, by have := t.isLt; have := r.isLt; have : cfg0.N = 32 := rfl; omega⟩

theorem emb0 (t : Fin cfg0.N) (r k : Fin 1024) : (win0_0.blk t).view.emb (ix2 r k) = ix2 (rowAt t r) k := by
  funext a
  apply Fin.ext
  match a with
  | ⟨0, _⟩ => show win0_0.index t 0 * 1024 + 1 * r.val = _; rw [(idx t).1]; simp [rowAt, ix2]
  | ⟨1, _⟩ => show win0_0.index t 1 * 1024 + 1 * k.val = _; rw [(idx t).1]; simp [ix2]

theorem emb5 (t : Fin cfg0.N) (r k : Fin 1024) : (win0_5.blk t).view.emb (ix2 r k) = ix2 (rowAt t r) k := by
  funext a
  apply Fin.ext
  match a with
  | ⟨0, _⟩ => show win0_5.index t 0 * 1024 + 1 * r.val = _; rw [(idx t).2.2.2.2.2]; simp [rowAt, ix2]
  | ⟨1, _⟩ => show win0_5.index t 1 * 1024 + 1 * k.val = _; rw [(idx t).2.2.2.2.2]; simp [ix2]

theorem input_at (c : Dev nD) (t : Fin cfg0.N) (r k : Fin 1024) :
    iblk m c 0 t (ix2 r k) = m ((c : Thread nD τ).loc main_arg0) (ix2 (rowAt t r) k) := by
  show V m c main_arg0 ((win0_0.blk t).view.emb (ix2 r k)) = _
  rw [emb0]

theorem at1 (c : Dev nD) (t : Fin cfg0.N) : iblk m c 1 t = m ((c : Thread nD τ).loc main_arg3) := by blk_ext! [iblk, V, idx t]
theorem at2 (c : Dev nD) (t : Fin cfg0.N) : iblk m c 2 t = m ((c : Thread nD τ).loc main_arg4) := by blk_ext! [iblk, V, idx t]
theorem at3 (c : Dev nD) (t : Fin cfg0.N) : iblk m c 3 t = m ((c : Thread nD τ).loc main_arg5) := by blk_ext! [iblk, V, idx t]
theorem at4' (c : Dev nD) (t : Fin cfg0.N) : iblk m c 4 t = m ((c : Thread nD τ).loc main_arg6) := by blk_ext! [iblk, V, idx t]

/-- What a point leaves, entry by entry. -/
theorem left_eq (c : Dev nD) (t : Fin cfg0.N) : left m c t
    = block (iblk m c 0 t) (iblk m c 1 t) (iblk m c 2 t) (iblk m c 3 t) (iblk m c 4 t) (rw1 (F := Ideal) (V m c main_arg1)) (rw2 (F := Ideal) (V m c main_arg2)) := by
  funext y
  have := View.canon_append_of_piecesOf (Val := Elt Ideal) _ [] _ (pieces (iblk m c 0 t) (iblk m c 1 t) (iblk m c 2 t) (iblk m c 3 t) (iblk m c 4 t)
    (rw1 (F := Ideal) (V m c main_arg1)) (rw2 (F := Ideal) (V m c main_arg2))) y (halves_cover _ _ _ _ _ c _ _ y)
  rwa [List.append_nil] at this

/-- The rounded weights are the weights, read exactly. -/
theorem wide1 (c : Dev nD) (p : Fin 1024) (j : Fin 4096) : rw1 (F := Ideal) (V m c main_arg1) (ix2 p j) = m ((c : Thread nD τ).loc main_arg1) (ix2 p j) := rfl
theorem wide2 (c : Dev nD) (j : Fin 4096) (q : Fin 1024) : rw2 (F := Ideal) (V m c main_arg2) (ix2 j q) = m ((c : Thread nD τ).loc main_arg2) (ix2 j q) := rfl

open Cert.MlpRefIdeal.Term in
/-- An entry of what a point leaves is the reference's at that row. -/
theorem left_apply (c : Dev nD) (t : Fin cfg0.N) (r k : Fin 1024) : (left m c t (ix2 r k) : EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (ix2 (rowAt t r) k) := by
  rw [left_eq, at1, at2, at3, at4', result_apply]
  unfold block outRow
  refine unitRow_congr (fun q => ?_) rfl rfl
  have e : (fun p => iblk m c 0 t (ix2 r p)) = fun p => m ((c : Thread nD τ).loc main_arg0) (ix2 (rowAt t r) p) := funext fun p => input_at m c t r p
  exact congrArg (fun f : Fin 1024 → EReal => added (fun p => unitRow f (m ((c : Thread nD τ).loc main_arg3) (ix2 0 p)) (m ((c : Thread nD τ).loc main_arg4) (ix2 0 p)) p)
    (fun p j => m ((c : Thread nD τ).loc main_arg1) (ix2 p j)) (fun j => m ((c : Thread nD τ).loc main_arg2) (ix2 j q)) q) e

/-- Which block the last window writes at a point. -/
theorem after5 (c : Dev nD) (t : Fin cfg0.N) : (dats m 0 c).after 5 t = left m c t := by
  unfold dats
  with_reducible rfl

/-- The array the blocks make up. -/
theorem array_eq (c : Dev nD) (G : S32768x1024.Idx → EReal) (h : ∀ (t : Fin cfg0.N) (r k : Fin 1024), (left m c t (ix2 r k) : EReal) = G (ix2 (rowAt t r) k)) :
    (dats m 0 c).arrAt 5 cfg0.N = G := by
  refine (dats m 0 c).arrAt_eq_of_covers 5 _ (by decide +kernel) fun t hf y => ?_
  blk_simp
  rw [after5]
  idx_vars y
  refine Eq.trans ?_ (congrArg G (emb5 t y0 y1)).symm
  exact h t y0 y1

open Cert.MlpRefIdeal.Term in
/-- The kernel's array is the reference's. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) :=
  array_eq m c _ (left_apply m c)

end Array

end Cert.MlpIdeal.Tie

end
-- ==== Proof.MlpClaim.lean ====
/- The claims about the feed-forward block, each from its run. -/
module

public import proofs.«01_k».proof.Defs
public import proofs.«01_k».proof.Proof.MlpFrame
public import proofs.«01_k».proof.Proof.MlpValue
public import Idealize.ShloMosaic.Adequacy

@[expose] public section

set_option maxRecDepth 16384

noncomputable section

namespace Cert.MlpClaim

open Idealize.ShloMosaic Idealize.SL.Sem Cert.MlpRefIdeal.Term

/-- The kernel ends with its arguments unchanged and every counter at zero. -/
theorem frame : quiescent_Mlp (hMlp := Cert.Mlp.Gen.facts) := fun m ρ _ =>
  (θ_run _ _ _).mono (fun _ h => ⟨fun c => (h.1 c).2, h.2⟩) (Cert.Mlp.Hand.run_blocks m ρ)

/-- So does its ideal reading. -/
theorem frame_ideal : quiescent_MlpIdeal (hMlpIdeal := Cert.MlpIdeal.Gen.facts) := fun m ρ _ =>
  (θ_run _ _ _).mono (fun _ h => ⟨fun c => (h.1 c).2, h.2⟩) (Cert.MlpIdeal.Hand.run_blocks m ρ)

/-- So does the reference. -/
theorem frame_ref : quiescent_MlpRefIdeal (hMlpRefIdeal := Cert.MlpRefIdeal.Gen.facts) := fun m ρ _ =>
  (θ_run _ _ _).mono (fun r h => ⟨fun c => (h c).2, sem_eq_zero_of_no_sems (by decide) r.2⟩) (run m ρ)

/-- The kernel's result is the reference's. -/
theorem algebraic : algebraic_MlpIdeal_MlpRefIdeal (hMlpIdeal := Cert.MlpIdeal.Gen.facts) (hMlpRefIdeal := Cert.MlpRefIdeal.Gen.facts) := by
  intro m ρ m' ρ' _ hag
  refine ⟨fun c => result (m ((c.tc : Thread Cert.MlpIdeal.nD Cert.MlpIdeal.τ).loc Cert.MlpIdeal.main_arg0)) (m ((c.tc : Thread Cert.MlpIdeal.nD Cert.MlpIdeal.τ).loc Cert.MlpIdeal.main_arg1))
      (m ((c.tc : Thread Cert.MlpIdeal.nD Cert.MlpIdeal.τ).loc Cert.MlpIdeal.main_arg2)) (m ((c.tc : Thread Cert.MlpIdeal.nD Cert.MlpIdeal.τ).loc Cert.MlpIdeal.main_arg3))
      (m ((c.tc : Thread Cert.MlpIdeal.nD Cert.MlpIdeal.τ).loc Cert.MlpIdeal.main_arg4)) (m ((c.tc : Thread Cert.MlpIdeal.nD Cert.MlpIdeal.τ).loc Cert.MlpIdeal.main_arg5))
      (m ((c.tc : Thread Cert.MlpIdeal.nD Cert.MlpIdeal.τ).loc Cert.MlpIdeal.main_arg6)), ?_, ?_⟩
  · exact (θ_run _ _ _).mono (fun _ h c => ⟨(h.1 c).1.trans (Cert.MlpIdeal.Tie.final m c), (h.1 c).2⟩) (Cert.MlpIdeal.Hand.run_blocks m ρ)
  · refine (θ_run _ _ _).mono (fun _ h c => ⟨(h c).1.trans ?_, (h c).2⟩) (run m' ρ')
    obtain ⟨h0, h1, h2, h3, h4, h5, h6⟩ := hag c
    exact congr (congr (congr (congr (congr (congr (congrArg result h0) h1) h2) h3) h4) h5) h6

end Cert.MlpClaim

end
-- ==== Proof.MixerClaim.lean ====
/- The claims about the token mixer: it ends with its arguments unchanged. -/
module

public import proofs.«01_k».proof.Defs
public import proofs.«01_k».proof.Proof.Gen.Mixer.Frame
public import proofs.«01_k».proof.Proof.Gen.MixerIdeal.Frame
public import Idealize.ShloMosaic.Adequacy

@[expose] public section

set_option maxRecDepth 16384

noncomputable section

namespace Cert.MixerClaim

open Idealize.ShloMosaic Idealize.SL.Sem

/-- The mixer's call ends with its arguments unchanged and every counter at zero. -/
theorem frame : quiescent_Mixer (hMixer := Cert.Mixer.Gen.facts) := fun m ρ _ => Cert.Mixer.Gen.frame m ρ

/-- So does its ideal reading. -/
theorem frame_ideal : quiescent_MixerIdeal (hMixerIdeal := Cert.MixerIdeal.Gen.facts) := fun m ρ _ => Cert.MixerIdeal.Gen.frame m ρ

end Cert.MixerClaim

end
-- ==== Proof.lean ====
/- The proof of the claim: every part is proved in its own module. -/
module

public import proofs.«01_k».proof.Proof.Gen.MlpRefIdeal.Run
public import proofs.«01_k».proof.Proof.MlpFrame
public import proofs.«01_k».proof.Proof.MlpIdealFrame
public import proofs.«01_k».proof.Defs
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Run
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.KvClaim
public import proofs.«01_k».proof.Proof.MlpClaim
public import proofs.«01_k».proof.Proof.MixerClaim
public import Idealize.ShloMosaic.Adequacy
public import Idealize.ShloMosaic.Init

@[expose] public section

noncomputable section

namespace Cert.Proof

open Idealize.ShloMosaic Idealize.SL.Sem Cert.Kv

theorem claim : Cert.Claim := ⟨Cert.Mlp.Gen.facts, Cert.MlpIdeal.Gen.facts, Cert.MlpRefIdeal.Gen.facts, Cert.Kv.Gen.facts, Cert.KvIdeal.Gen.facts, Cert.KvRefIdeal.Gen.facts, Cert.Mixer.Gen.facts, Cert.MixerIdeal.Gen.facts,
  MlpClaim.frame, MlpClaim.frame_ideal, MlpClaim.frame_ref, KvClaim.frame, KvClaim.frame_ideal, KvClaim.frame_ref,
  MixerClaim.frame, MixerClaim.frame_ideal,
  trivial, MlpClaim.algebraic, trivial, KvClaim.algebraic, trivial⟩

end Cert.Proof

end
